-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))) = (fun _ => 1#1)

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Dhx (m : (ℓ : Loc Cert.Dhx.nD Cert.Dhx.τ Cert.Dhx.sig) → Buf (Elt Bits) ℓ) : Prop :=
  True

def Pre_DhxIdeal (m : (ℓ : Loc Cert.DhxIdeal.nD Cert.DhxIdeal.τ Cert.DhxIdeal.sig) → Buf (Elt Ideal) ℓ) : Prop :=
  True

def Pre_DhxRefIdeal (m : (ℓ : Loc Cert.DhxRefIdeal.nD Cert.DhxRefIdeal.τ Cert.DhxRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Dhx [hDhx : Cert.Dhx.Facts] : Prop :=
  ∀ (m : (ℓ : Loc Cert.Dhx.nD Cert.Dhx.τ Cert.Dhx.sig) → Buf (Elt Bits) ℓ) (g : Dev Cert.Dhx.nD → PrngReg), Pre_Dhx m →
    θ_run (Cert.Dhx.defs (F := Bits)) (onTc (τ := Cert.Dhx.τ) (Cert.Dhx.main (F := Bits))) ⟨m, fun _ => 0, g⟩ (fun r => (∀ c : Dev Cert.Dhx.nD,
      r.2.mem ((c.tc : Thread Cert.Dhx.nD Cert.Dhx.τ).loc Cert.Dhx.main_arg0) = m ((c.tc : Thread Cert.Dhx.nD Cert.Dhx.τ).loc Cert.Dhx.main_arg0)
      ∧ r.2.mem ((c.tc : Thread Cert.Dhx.nD Cert.Dhx.τ).loc Cert.Dhx.main_arg1) = m ((c.tc : Thread Cert.Dhx.nD Cert.Dhx.τ).loc Cert.Dhx.main_arg1)
      ∧ r.2.mem ((c.tc : Thread Cert.Dhx.nD Cert.Dhx.τ).loc Cert.Dhx.main_arg2) = m ((c.tc : Thread Cert.Dhx.nD Cert.Dhx.τ).loc Cert.Dhx.main_arg2)
      ∧ r.2.mem ((c.tc : Thread Cert.Dhx.nD Cert.Dhx.τ).loc Cert.Dhx.main_arg3) = m ((c.tc : Thread Cert.Dhx.nD Cert.Dhx.τ).loc Cert.Dhx.main_arg3)
      ∧ r.2.mem ((c.tc : Thread Cert.Dhx.nD Cert.Dhx.τ).loc Cert.Dhx.main_arg4) = m ((c.tc : Thread Cert.Dhx.nD Cert.Dhx.τ).loc Cert.Dhx.main_arg4)
      ∧ r.2.mem ((c.tc : Thread Cert.Dhx.nD Cert.Dhx.τ).loc Cert.Dhx.main_arg5) = m ((c.tc : Thread Cert.Dhx.nD Cert.Dhx.τ).loc Cert.Dhx.main_arg5)
      ∧ r.2.mem ((c.tc : Thread Cert.Dhx.nD Cert.Dhx.τ).loc Cert.Dhx.main_arg6) = m ((c.tc : Thread Cert.Dhx.nD Cert.Dhx.τ).loc Cert.Dhx.main_arg6)
      ∧ r.2.mem ((c.tc : Thread Cert.Dhx.nD Cert.Dhx.τ).loc Cert.Dhx.main_arg7) = m ((c.tc : Thread Cert.Dhx.nD Cert.Dhx.τ).loc Cert.Dhx.main_arg7))
      ∧ r.2.sem = fun _ => 0)

def quiescent_DhxIdeal [hDhxIdeal : Cert.DhxIdeal.Facts] : Prop :=
  ∀ (m : (ℓ : Loc Cert.DhxIdeal.nD Cert.DhxIdeal.τ Cert.DhxIdeal.sig) → Buf (Elt Ideal) ℓ) (g : Dev Cert.DhxIdeal.nD → PrngReg), Pre_DhxIdeal m →
    θ_run (Cert.DhxIdeal.defs (F := Ideal)) (onTc (τ := Cert.DhxIdeal.τ) (Cert.DhxIdeal.main (F := Ideal))) ⟨m, fun _ => 0, g⟩ (fun r => (∀ c : Dev Cert.DhxIdeal.nD,
      r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
      ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
      ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2)
      ∧ r.2.mem ((c.tc : Thread Cert.DhxIdeal.nD Cert.DhxIdeal.τ).loc Cert.DhxIdeal.main_arg3) = m ((c.tc : Thread Cert.DhxIdeal.nD Cert.DhxIdeal.τ).loc Cert.DhxIdeal.main_arg3)
      ∧ r.2.mem ((c.tc : Thread Cert.DhxIdeal.nD Cert.DhxIdeal.τ).loc Cert.DhxIdeal.main_arg4) = m ((c.tc : Thread Cert.DhxIdeal.nD Cert.DhxIdeal.τ).loc Cert.DhxIdeal.main_arg4)
      ∧ r.2.mem ((c.tc : Thread Cert.DhxIdeal.nD Cert.DhxIdeal.τ).loc Cert.DhxIdeal.main_arg5) = m ((c.tc : Thread Cert.DhxIdeal.nD Cert.DhxIdeal.τ).loc Cert.DhxIdeal.main_arg5)
      ∧ r.2.mem ((c.tc : Thread Cert.DhxIdeal.nD Cert.DhxIdeal.τ).loc Cert.DhxIdeal.main_arg6) = m ((c.tc : Thread Cert.DhxIdeal.nD Cert.DhxIdeal.τ).loc Cert.DhxIdeal.main_arg6)
      ∧ r.2.mem ((c.tc : Thread Cert.DhxIdeal.nD Cert.DhxIdeal.τ).loc Cert.DhxIdeal.main_arg7) = m ((c.tc : Thread Cert.DhxIdeal.nD Cert.DhxIdeal.τ).loc Cert.DhxIdeal.main_arg7))
      ∧ r.2.sem = fun _ => 0)

def quiescent_DhxRefIdeal [hDhxRefIdeal : Cert.DhxRefIdeal.Facts] : Prop :=
  ∀ (m : (ℓ : Loc Cert.DhxRefIdeal.nD Cert.DhxRefIdeal.τ Cert.DhxRefIdeal.sig) → Buf (Elt Ideal) ℓ) (g : Dev Cert.DhxRefIdeal.nD → PrngReg), Pre_DhxRefIdeal m →
    θ_run (Cert.DhxRefIdeal.defs (F := Ideal)) (onTc (τ := Cert.DhxRefIdeal.τ) (Cert.DhxRefIdeal.main (F := Ideal))) ⟨m, fun _ => 0, g⟩ (fun r => (∀ c : Dev Cert.DhxRefIdeal.nD,
      r.2.mem ((c.tc : Thread Cert.DhxRefIdeal.nD Cert.DhxRefIdeal.τ).loc Cert.DhxRefIdeal.main_arg0) = m ((c.tc : Thread Cert.DhxRefIdeal.nD Cert.DhxRefIdeal.τ).loc Cert.DhxRefIdeal.main_arg0)
      ∧ r.2.mem ((c.tc : Thread Cert.DhxRefIdeal.nD Cert.DhxRefIdeal.τ).loc Cert.DhxRefIdeal.main_arg1) = m ((c.tc : Thread Cert.DhxRefIdeal.nD Cert.DhxRefIdeal.τ).loc Cert.DhxRefIdeal.main_arg1)
      ∧ r.2.mem ((c.tc : Thread Cert.DhxRefIdeal.nD Cert.DhxRefIdeal.τ).loc Cert.DhxRefIdeal.main_arg2) = m ((c.tc : Thread Cert.DhxRefIdeal.nD Cert.DhxRefIdeal.τ).loc Cert.DhxRefIdeal.main_arg2)
      ∧ r.2.mem ((c.tc : Thread Cert.DhxRefIdeal.nD Cert.DhxRefIdeal.τ).loc Cert.DhxRefIdeal.main_arg3) = m ((c.tc : Thread Cert.DhxRefIdeal.nD Cert.DhxRefIdeal.τ).loc Cert.DhxRefIdeal.main_arg3)
      ∧ r.2.mem ((c.tc : Thread Cert.DhxRefIdeal.nD Cert.DhxRefIdeal.τ).loc Cert.DhxRefIdeal.main_arg4) = m ((c.tc : Thread Cert.DhxRefIdeal.nD Cert.DhxRefIdeal.τ).loc Cert.DhxRefIdeal.main_arg4)
      ∧ r.2.mem ((c.tc : Thread Cert.DhxRefIdeal.nD Cert.DhxRefIdeal.τ).loc Cert.DhxRefIdeal.main_arg5) = m ((c.tc : Thread Cert.DhxRefIdeal.nD Cert.DhxRefIdeal.τ).loc Cert.DhxRefIdeal.main_arg5)
      ∧ r.2.mem ((c.tc : Thread Cert.DhxRefIdeal.nD Cert.DhxRefIdeal.τ).loc Cert.DhxRefIdeal.main_arg6) = m ((c.tc : Thread Cert.DhxRefIdeal.nD Cert.DhxRefIdeal.τ).loc Cert.DhxRefIdeal.main_arg6)
      ∧ r.2.mem ((c.tc : Thread Cert.DhxRefIdeal.nD Cert.DhxRefIdeal.τ).loc Cert.DhxRefIdeal.main_arg7) = m ((c.tc : Thread Cert.DhxRefIdeal.nD Cert.DhxRefIdeal.τ).loc Cert.DhxRefIdeal.main_arg7))
      ∧ r.2.sem = fun _ => 0)

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v29_0)) (v1 : (c : Dev Cert.GateIdeal.nD) → Buf (Elt Ideal) ((c.tc : Thread Cert.GateIdeal.nD Cert.GateIdeal.τ).loc Cert.GateIdeal.main_v29_1)) (v2 : (c : Dev Cert.GateIdeal.nD) → Buf (Elt Ideal) ((c.tc : Thread Cert.GateIdeal.nD Cert.GateIdeal.τ).loc Cert.GateIdeal.main_v29_2)) (v3 : (c : Dev Cert.GateIdeal.nD) → Buf (Elt Ideal) ((c.tc : Thread Cert.GateIdeal.nD Cert.GateIdeal.τ).loc Cert.GateIdeal.main_v29_3)) (v4 : (c : Dev Cert.GateIdeal.nD) → Buf (Elt Ideal) ((c.tc : Thread Cert.GateIdeal.nD Cert.GateIdeal.τ).loc Cert.GateIdeal.main_v29_4)) (v5 : (c : Dev Cert.GateIdeal.nD) → Buf (Elt Ideal) ((c.tc : Thread Cert.GateIdeal.nD Cert.GateIdeal.τ).loc Cert.GateIdeal.main_v29_5)) (v6 : (c : Dev Cert.GateIdeal.nD) → Buf (Elt Ideal) ((c.tc : Thread Cert.GateIdeal.nD Cert.GateIdeal.τ).loc Cert.GateIdeal.main_v29_6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v29_0) = v0 c
          ∧ r.2.mem ((c.tc : Thread Cert.GateIdeal.nD Cert.GateIdeal.τ).loc Cert.GateIdeal.main_v29_1) = v1 c
          ∧ r.2.mem ((c.tc : Thread Cert.GateIdeal.nD Cert.GateIdeal.τ).loc Cert.GateIdeal.main_v29_2) = v2 c
          ∧ r.2.mem ((c.tc : Thread Cert.GateIdeal.nD Cert.GateIdeal.τ).loc Cert.GateIdeal.main_v29_3) = v3 c
          ∧ r.2.mem ((c.tc : Thread Cert.GateIdeal.nD Cert.GateIdeal.τ).loc Cert.GateIdeal.main_v29_4) = v4 c
          ∧ r.2.mem ((c.tc : Thread Cert.GateIdeal.nD Cert.GateIdeal.τ).loc Cert.GateIdeal.main_v29_5) = v5 c
          ∧ r.2.mem ((c.tc : Thread Cert.GateIdeal.nD Cert.GateIdeal.τ).loc Cert.GateIdeal.main_v29_6) = v6 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v79) = v0 c
          ∧ r.2.mem ((c.tc : Thread Cert.GateRefIdeal.nD Cert.GateRefIdeal.τ).loc Cert.GateRefIdeal.main_v80) = v1 c
          ∧ r.2.mem ((c.tc : Thread Cert.GateRefIdeal.nD Cert.GateRefIdeal.τ).loc Cert.GateRefIdeal.main_v76) = v2 c
          ∧ r.2.mem ((c.tc : Thread Cert.GateRefIdeal.nD Cert.GateRefIdeal.τ).loc Cert.GateRefIdeal.main_v41) = v3 c
          ∧ r.2.mem ((c.tc : Thread Cert.GateRefIdeal.nD Cert.GateRefIdeal.τ).loc Cert.GateRefIdeal.main_v50) = v4 c
          ∧ r.2.mem ((c.tc : Thread Cert.GateRefIdeal.nD Cert.GateRefIdeal.τ).loc Cert.GateRefIdeal.main_v47) = v5 c
          ∧ r.2.mem ((c.tc : Thread Cert.GateRefIdeal.nD Cert.GateRefIdeal.τ).loc Cert.GateRefIdeal.main_v78) = v6 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v6) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v11) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v81) = v0 c
          ∧ r.2.mem ((c.tc : Thread Cert.HeadRefIdeal.nD Cert.HeadRefIdeal.τ).loc Cert.HeadRefIdeal.main_v87) = v1 c
          ∧ r.2.mem ((c.tc : Thread Cert.HeadRefIdeal.nD Cert.HeadRefIdeal.τ).loc Cert.HeadRefIdeal.main_v89) = v2 c
          ∧ r.2.mem ((c.tc : Thread Cert.HeadRefIdeal.nD Cert.HeadRefIdeal.τ).loc Cert.HeadRefIdeal.main_v90) = v3 c
          ∧ r.2.mem ((c.tc : Thread Cert.HeadRefIdeal.nD Cert.HeadRefIdeal.τ).loc Cert.HeadRefIdeal.main_v55) = v4 c
          ∧ r.2.mem ((c.tc : Thread Cert.HeadRefIdeal.nD Cert.HeadRefIdeal.τ).loc Cert.HeadRefIdeal.main_v52) = v5 c
          ∧ r.2.mem ((c.tc : Thread Cert.HeadRefIdeal.nD Cert.HeadRefIdeal.τ).loc Cert.HeadRefIdeal.main_v86) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v2_0)) (v1 : (c : Dev Cert.InpIdeal.nD) → Buf (Elt Ideal) ((c.tc : Thread Cert.InpIdeal.nD Cert.InpIdeal.τ).loc Cert.InpIdeal.main_v2_1)) (v2 : (c : Dev Cert.InpIdeal.nD) → Buf (Elt Ideal) ((c.tc : Thread Cert.InpIdeal.nD Cert.InpIdeal.τ).loc Cert.InpIdeal.main_v2_2)) (v3 : (c : Dev Cert.InpIdeal.nD) → Buf (Elt Ideal) ((c.tc : Thread Cert.InpIdeal.nD Cert.InpIdeal.τ).loc Cert.InpIdeal.main_v2_3)) (v4 : (c : Dev Cert.InpIdeal.nD) → Buf (Elt Ideal) ((c.tc : Thread Cert.InpIdeal.nD Cert.InpIdeal.τ).loc Cert.InpIdeal.main_v2_4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v2_0) = v0 c
          ∧ r.2.mem ((c.tc : Thread Cert.InpIdeal.nD Cert.InpIdeal.τ).loc Cert.InpIdeal.main_v2_1) = v1 c
          ∧ r.2.mem ((c.tc : Thread Cert.InpIdeal.nD Cert.InpIdeal.τ).loc Cert.InpIdeal.main_v2_2) = v2 c
          ∧ r.2.mem ((c.tc : Thread Cert.InpIdeal.nD Cert.InpIdeal.τ).loc Cert.InpIdeal.main_v2_3) = v3 c
          ∧ r.2.mem ((c.tc : Thread Cert.InpIdeal.nD Cert.InpIdeal.τ).loc Cert.InpIdeal.main_v2_4) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v14) = v0 c
          ∧ r.2.mem ((c.tc : Thread Cert.InpRefIdeal.nD Cert.InpRefIdeal.τ).loc Cert.InpRefIdeal.main_v15) = v1 c
          ∧ r.2.mem ((c.tc : Thread Cert.InpRefIdeal.nD Cert.InpRefIdeal.τ).loc Cert.InpRefIdeal.main_v11) = v2 c
          ∧ r.2.mem ((c.tc : Thread Cert.InpRefIdeal.nD Cert.InpRefIdeal.τ).loc Cert.InpRefIdeal.main_v12) = v3 c
          ∧ r.2.mem ((c.tc : Thread Cert.InpRefIdeal.nD Cert.InpRefIdeal.τ).loc Cert.InpRefIdeal.main_v13) = v4 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Dhx_DhxIdeal : Prop :=
  True

def algebraic_DhxIdeal_DhxRefIdeal [hDhxIdeal : Cert.DhxIdeal.Facts] [hDhxRefIdeal : Cert.DhxRefIdeal.Facts] : Prop :=
  ∀ (m : (ℓ : Loc Cert.DhxIdeal.nD Cert.DhxIdeal.τ Cert.DhxIdeal.sig) → Buf (Elt Ideal) ℓ) (g : Dev Cert.DhxIdeal.nD → PrngReg)
    (m' : (ℓ : Loc Cert.DhxRefIdeal.nD Cert.DhxRefIdeal.τ Cert.DhxRefIdeal.sig) → Buf (Elt Ideal) ℓ) (g' : Dev Cert.DhxRefIdeal.nD → PrngReg), Pre_DhxIdeal m →
    (∀ c : Dev Cert.DhxIdeal.nD,
      m' ((c.tc : Thread Cert.DhxRefIdeal.nD Cert.DhxRefIdeal.τ).loc Cert.DhxRefIdeal.main_arg0) = m ((c.tc : Thread Cert.DhxIdeal.nD Cert.DhxIdeal.τ).loc Cert.DhxIdeal.main_arg0)
      ∧ m' ((c.tc : Thread Cert.DhxRefIdeal.nD Cert.DhxRefIdeal.τ).loc Cert.DhxRefIdeal.main_arg1) = m ((c.tc : Thread Cert.DhxIdeal.nD Cert.DhxIdeal.τ).loc Cert.DhxIdeal.main_arg1)
      ∧ m' ((c.tc : Thread Cert.DhxRefIdeal.nD Cert.DhxRefIdeal.τ).loc Cert.DhxRefIdeal.main_arg2) = m ((c.tc : Thread Cert.DhxIdeal.nD Cert.DhxIdeal.τ).loc Cert.DhxIdeal.main_arg2)
      ∧ m' ((c.tc : Thread Cert.DhxRefIdeal.nD Cert.DhxRefIdeal.τ).loc Cert.DhxRefIdeal.main_arg3) = m ((c.tc : Thread Cert.DhxIdeal.nD Cert.DhxIdeal.τ).loc Cert.DhxIdeal.main_arg3)
      ∧ m' ((c.tc : Thread Cert.DhxRefIdeal.nD Cert.DhxRefIdeal.τ).loc Cert.DhxRefIdeal.main_arg4) = m ((c.tc : Thread Cert.DhxIdeal.nD Cert.DhxIdeal.τ).loc Cert.DhxIdeal.main_arg4)
      ∧ m' ((c.tc : Thread Cert.DhxRefIdeal.nD Cert.DhxRefIdeal.τ).loc Cert.DhxRefIdeal.main_arg5) = m ((c.tc : Thread Cert.DhxIdeal.nD Cert.DhxIdeal.τ).loc Cert.DhxIdeal.main_arg5)
      ∧ m' ((c.tc : Thread Cert.DhxRefIdeal.nD Cert.DhxRefIdeal.τ).loc Cert.DhxRefIdeal.main_arg6) = m ((c.tc : Thread Cert.DhxIdeal.nD Cert.DhxIdeal.τ).loc Cert.DhxIdeal.main_arg6)
      ∧ m' ((c.tc : Thread Cert.DhxRefIdeal.nD Cert.DhxRefIdeal.τ).loc Cert.DhxRefIdeal.main_arg7) = m ((c.tc : Thread Cert.DhxIdeal.nD Cert.DhxIdeal.τ).loc Cert.DhxIdeal.main_arg7)) →
    ∃ (v0 : (c : Dev Cert.DhxIdeal.nD) → Buf (Elt Ideal) ((c.tc : Thread Cert.DhxIdeal.nD Cert.DhxIdeal.τ).loc Cert.DhxIdeal.main_v2_0)) (v1 : (c : Dev Cert.DhxIdeal.nD) → Buf (Elt Ideal) ((c.tc : Thread Cert.DhxIdeal.nD Cert.DhxIdeal.τ).loc Cert.DhxIdeal.main_v2_1)) (v2 : (c : Dev Cert.DhxIdeal.nD) → Buf (Elt Ideal) ((c.tc : Thread Cert.DhxIdeal.nD Cert.DhxIdeal.τ).loc Cert.DhxIdeal.main_v2_2)),
      θ_run (Cert.DhxIdeal.defs (F := Ideal)) (onTc (τ := Cert.DhxIdeal.τ) (Cert.DhxIdeal.main (F := Ideal))) ⟨m, fun _ => 0, g⟩ (fun r => ∀ c : Dev Cert.DhxIdeal.nD,
          r.2.mem ((c.tc : Thread Cert.DhxIdeal.nD Cert.DhxIdeal.τ).loc Cert.DhxIdeal.main_v2_0) = v0 c
          ∧ r.2.mem ((c.tc : Thread Cert.DhxIdeal.nD Cert.DhxIdeal.τ).loc Cert.DhxIdeal.main_v2_1) = v1 c
          ∧ r.2.mem ((c.tc : Thread Cert.DhxIdeal.nD Cert.DhxIdeal.τ).loc Cert.DhxIdeal.main_v2_2) = v2 c
          ∧ r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
          ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
          ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2)
          ∧ r.2.mem ((c.tc : Thread Cert.DhxIdeal.nD Cert.DhxIdeal.τ).loc Cert.DhxIdeal.main_arg3) = m ((c.tc : Thread Cert.DhxIdeal.nD Cert.DhxIdeal.τ).loc Cert.DhxIdeal.main_arg3)
          ∧ r.2.mem ((c.tc : Thread Cert.DhxIdeal.nD Cert.DhxIdeal.τ).loc Cert.DhxIdeal.main_arg4) = m ((c.tc : Thread Cert.DhxIdeal.nD Cert.DhxIdeal.τ).loc Cert.DhxIdeal.main_arg4)
          ∧ r.2.mem ((c.tc : Thread Cert.DhxIdeal.nD Cert.DhxIdeal.τ).loc Cert.DhxIdeal.main_arg5) = m ((c.tc : Thread Cert.DhxIdeal.nD Cert.DhxIdeal.τ).loc Cert.DhxIdeal.main_arg5)
          ∧ r.2.mem ((c.tc : Thread Cert.DhxIdeal.nD Cert.DhxIdeal.τ).loc Cert.DhxIdeal.main_arg6) = m ((c.tc : Thread Cert.DhxIdeal.nD Cert.DhxIdeal.τ).loc Cert.DhxIdeal.main_arg6)
          ∧ r.2.mem ((c.tc : Thread Cert.DhxIdeal.nD Cert.DhxIdeal.τ).loc Cert.DhxIdeal.main_arg7) = m ((c.tc : Thread Cert.DhxIdeal.nD Cert.DhxIdeal.τ).loc Cert.DhxIdeal.main_arg7))
      ∧ θ_run (Cert.DhxRefIdeal.defs (F := Ideal)) (onTc (τ := Cert.DhxRefIdeal.τ) (Cert.DhxRefIdeal.main (F := Ideal))) ⟨m', fun _ => 0, g'⟩ (fun r => ∀ c : Dev Cert.DhxRefIdeal.nD,
          r.2.mem ((c.tc : Thread Cert.DhxRefIdeal.nD Cert.DhxRefIdeal.τ).loc Cert.DhxRefIdeal.main_v27) = v0 c
          ∧ r.2.mem ((c.tc : Thread Cert.DhxRefIdeal.nD Cert.DhxRefIdeal.τ).loc Cert.DhxRefIdeal.main_v21) = v1 c
          ∧ r.2.mem ((c.tc : Thread Cert.DhxRefIdeal.nD Cert.DhxRefIdeal.τ).loc Cert.DhxRefIdeal.main_v24) = v2 c
          ∧ r.2.mem ((c.tc : Thread Cert.DhxRefIdeal.nD Cert.DhxRefIdeal.τ).loc Cert.DhxRefIdeal.main_arg0) = m' ((c.tc : Thread Cert.DhxRefIdeal.nD Cert.DhxRefIdeal.τ).loc Cert.DhxRefIdeal.main_arg0)
          ∧ r.2.mem ((c.tc : Thread Cert.DhxRefIdeal.nD Cert.DhxRefIdeal.τ).loc Cert.DhxRefIdeal.main_arg1) = m' ((c.tc : Thread Cert.DhxRefIdeal.nD Cert.DhxRefIdeal.τ).loc Cert.DhxRefIdeal.main_arg1)
          ∧ r.2.mem ((c.tc : Thread Cert.DhxRefIdeal.nD Cert.DhxRefIdeal.τ).loc Cert.DhxRefIdeal.main_arg2) = m' ((c.tc : Thread Cert.DhxRefIdeal.nD Cert.DhxRefIdeal.τ).loc Cert.DhxRefIdeal.main_arg2)
          ∧ r.2.mem ((c.tc : Thread Cert.DhxRefIdeal.nD Cert.DhxRefIdeal.τ).loc Cert.DhxRefIdeal.main_arg3) = m' ((c.tc : Thread Cert.DhxRefIdeal.nD Cert.DhxRefIdeal.τ).loc Cert.DhxRefIdeal.main_arg3)
          ∧ r.2.mem ((c.tc : Thread Cert.DhxRefIdeal.nD Cert.DhxRefIdeal.τ).loc Cert.DhxRefIdeal.main_arg4) = m' ((c.tc : Thread Cert.DhxRefIdeal.nD Cert.DhxRefIdeal.τ).loc Cert.DhxRefIdeal.main_arg4)
          ∧ r.2.mem ((c.tc : Thread Cert.DhxRefIdeal.nD Cert.DhxRefIdeal.τ).loc Cert.DhxRefIdeal.main_arg5) = m' ((c.tc : Thread Cert.DhxRefIdeal.nD Cert.DhxRefIdeal.τ).loc Cert.DhxRefIdeal.main_arg5)
          ∧ r.2.mem ((c.tc : Thread Cert.DhxRefIdeal.nD Cert.DhxRefIdeal.τ).loc Cert.DhxRefIdeal.main_arg6) = m' ((c.tc : Thread Cert.DhxRefIdeal.nD Cert.DhxRefIdeal.τ).loc Cert.DhxRefIdeal.main_arg6)
          ∧ r.2.mem ((c.tc : Thread Cert.DhxRefIdeal.nD Cert.DhxRefIdeal.τ).loc Cert.DhxRefIdeal.main_arg7) = m' ((c.tc : Thread Cert.DhxRefIdeal.nD Cert.DhxRefIdeal.τ).loc Cert.DhxRefIdeal.main_arg7))

def Claim : Prop :=
  ∃ (hGate : Cert.Gate.Facts) (hGateIdeal : Cert.GateIdeal.Facts) (hGateRefIdeal : Cert.GateRefIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hHead : Cert.Head.Facts) (hHeadIdeal : Cert.HeadIdeal.Facts) (hHeadRefIdeal : Cert.HeadRefIdeal.Facts) (hInp : Cert.Inp.Facts) (hInpIdeal : Cert.InpIdeal.Facts) (hInpRefIdeal : Cert.InpRefIdeal.Facts) (hDhx : Cert.Dhx.Facts) (hDhxIdeal : Cert.DhxIdeal.Facts) (hDhxRefIdeal : Cert.DhxRefIdeal.Facts) (hPre_finite_gate : Cert.Pre_finite_gate.Facts) (hPre_finite_head : Cert.Pre_finite_head.Facts),
    quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_Inp (hInp := hInp)
    ∧ quiescent_InpIdeal (hInpIdeal := hInpIdeal)
    ∧ quiescent_InpRefIdeal (hInpRefIdeal := hInpRefIdeal)
    ∧ quiescent_Dhx (hDhx := hDhx)
    ∧ quiescent_DhxIdeal (hDhxIdeal := hDhxIdeal)
    ∧ quiescent_DhxRefIdeal (hDhxRefIdeal := hDhxRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_Inp_InpIdeal
    ∧ algebraic_InpIdeal_InpRefIdeal (hInpIdeal := hInpIdeal) (hInpRefIdeal := hInpRefIdeal)
    ∧ preserves_Dhx_DhxIdeal
    ∧ algebraic_DhxIdeal_DhxRefIdeal (hDhxIdeal := hDhxIdeal) (hDhxRefIdeal := hDhxRefIdeal)
-- ==== Pre_finite_gate.lean ====
abbrev S8192x1024 : Shape := ⟨2, ![8192, 1024]⟩
abbrev S1x1024 : Shape := ⟨2, ![1, 1024]⟩
abbrev S1024x1024 : Shape := ⟨2, ![1024, 1024]⟩
abbrev S8192x2048 : Shape := ⟨2, ![8192, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part2 {F : FTy → Type} [FloatOps F] (main_v0 : FVec F S8192x2048 .f32) (main_v29 : IVec S_ 1) (main_v33 : IVec S_ 1) : IVec S_ 1 :=
  let main_v34 : IVec S_ 1 := andi main_v29 main_v33
  let main_v35 : FVec F S8192x2048 .f32 := Host.absf main_v0
  let main_cst_12 : FVec F S_ .f32 := constant S_ .f32 0x7F800000#32
  let main_v36 : FVec F S8192x2048 .f32 := broadcastInDim S8192x2048 ![] bcast_S_S8192x2048 main_cst_12
  let main_v37 : IVec S8192x2048 1 := cmpf .olt main_v35 main_v36
  let main_c_13 : IVec S_ 1 := constantI S_ 1 1#1
  let main_v38 : IVec S_ 1 := (fun x v => Host.reduce IntOp.andi x v reducesTo_S8192x2048_S_d0_1 h_S_) main_v37 main_c_13
  let main_v39 : IVec S_ 1 := andi main_v34 main_v38
  main_v39

def fn_part1 {F : FTy → Type} [FloatOps F] (main_arg4 : FVec F S1x1024 .f32) (main_arg5 : FVec F S1024x1024 .f32) (main_arg6 : FVec F S1x1024 .f32) (main_v0 : FVec F S8192x2048 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024x1024 .f32 := Host.absf main_arg5
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_v0 main_v29 main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1024x1024 .f32) (main_arg6 : FVec F S1x1024 .f32) (main_arg7 : FVec F S8192x2048 .bf16) : IVec S_ 1 :=
  let main_v0 : FVec F S8192x2048 .f32 := (extf .f32 · bitsLt_bf16_f32) main_arg7
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_arg6 main_v0 main_v14 main_v15 main_v16
-- ==== Pre_finite_head.lean ====
abbrev S8192x2048 : Shape := ⟨2, ![8192, 2048]⟩
abbrev S2048x2048 : Shape := ⟨2, ![2048, 2048]⟩
abbrev S1x6144 : Shape := ⟨2, ![1, 6144]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x6144 : S_.BroadcastsInDim S1x6144 (![] : Fin 0 → Fin S1x6144.rank)
  reducesTo_S1x6144_S_d0_1 : S1x6144.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_v30 : IVec S_ 1) (main_v33 : IVec S1x2048 1) (main_c_11 : IVec S_ 1) : IVec S_ 1 :=
  let main_v34 : IVec S_ 1 := (fun x v => Host.reduce IntOp.andi x v reducesTo_S1x2048_S_d0_1 h_S_) main_v33 main_c_11
  let main_v35 : IVec S_ 1 := andi main_v30 main_v34
  main_v35

def fn_part1 {F : FTy → Type} [FloatOps F] (main_arg4 : FVec F S1x6144 .f32) (main_arg5 : FVec F S1x2048 .f32) (main_arg6 : FVec F S1x2048 .f32) (main_v15 : IVec S_ 1) (main_v16 : FVec F S8192x2048 .f32) (main_cst_4 : FVec F S_ .f32) : IVec S_ 1 :=
  let main_v17 : FVec F S8192x2048 .f32 := broadcastInDim S8192x2048 ![] bcast_S_S8192x2048 main_cst_4
  let main_v18 : IVec S8192x2048 1 := cmpf .olt main_v16 main_v17
  let main_c_5 : IVec S_ 1 := constantI S_ 1 1#1
  let main_v19 : IVec S_ 1 := (fun x v => Host.reduce IntOp.andi x v reducesTo_S8192x2048_S_d0_1 h_S_) main_v18 main_c_5
  let main_v20 : IVec S_ 1 := andi main_v15 main_v19
  let main_v21 : FVec F S1x6144 .f32 := Host.absf main_arg4
  let main_cst_6 : FVec F S_ .f32 := constant S_ .f32 0x7F800000#32
  let main_v22 : FVec F S1x6144 .f32 := broadcastInDim S1x6144 ![] bcast_S_S1x6144 main_cst_6
  let main_v23 : IVec S1x6144 1 := cmpf .olt main_v21 main_v22
  let main_c_7 : IVec S_ 1 := constantI S_ 1 1#1
  let main_v24 : IVec S_ 1 := (fun x v => Host.reduce IntOp.andi x v reducesTo_S1x6144_S_d0_1 h_S_) main_v23 main_c_7
  let main_v25 : IVec S_ 1 := andi main_v20 main_v24
  let main_v26 : FVec F S1x2048 .f32 := Host.absf main_arg5
  let main_cst_8 : FVec F S_ .f32 := constant S_ .f32 0x7F800000#32
  let main_v27 : FVec F S1x2048 .f32 := broadcastInDim S1x2048 ![] bcast_S_S1x2048 main_cst_8
  let main_v28 : IVec S1x2048 1 := cmpf .olt main_v26 main_v27
  let main_c_9 : IVec S_ 1 := constantI S_ 1 1#1
  let main_v29 : IVec S_ 1 := (fun x v => Host.reduce IntOp.andi x v reducesTo_S1x2048_S_d0_1 h_S_) main_v28 main_c_9
  let main_v30 : IVec S_ 1 := andi main_v25 main_v29
  let main_v31 : FVec F S1x2048 .f32 := Host.absf main_arg6
  let main_cst_10 : FVec F S_ .f32 := constant S_ .f32 0x7F800000#32
  let main_v32 : FVec F S1x2048 .f32 := broadcastInDim S1x2048 ![] bcast_S_S1x2048 main_cst_10
  let main_v33 : IVec S1x2048 1 := cmpf .olt main_v31 main_v32
  let main_c_11 : IVec S_ 1 := constantI S_ 1 1#1
  fn_part2 (F := F) main_v30 main_v33 main_c_11

def fn {F : FTy → Type} [FloatOps F] (main_arg0 : FVec F S8192x2048 .bf16) (main_arg1 : FVec F S2048x2048 .bf16) (main_arg2 : FVec F S8192x2048 .f32) (main_arg3 : FVec F S8192x2048 .f32) (main_arg4 : FVec F S1x6144 .f32) (main_arg5 : FVec F S1x2048 .f32) (main_arg6 : FVec F S1x2048 .f32) : IVec S_ 1 :=
  let main_v0 : FVec F S8192x2048 .f32 := (extf .f32 · bitsLt_bf16_f32) main_arg0
  let main_v1 : FVec F S2048x2048 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S2048x2048 .f32 := Host.absf main_v1
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v5 main_v9
  let main_v11 : FVec F S8192x2048 .f32 := Host.absf main_arg2
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  let main_c_3 : IVec S_ 1 := constantI S_ 1 1#1
  let main_v14 : IVec S_ 1 := (fun x v => Host.reduce IntOp.andi x v reducesTo_S8192x2048_S_d0_1 h_S_) main_v13 main_c_3
  let main_v15 : IVec S_ 1 := andi main_v10 main_v14
  let main_v16 : FVec F S8192x2048 .f32 := Host.absf main_arg3
  let main_cst_4 : FVec F S_ .f32 := constant S_ .f32 0x7F800000#32
  fn_part1 (F := F) main_arg4 main_arg5 main_arg6 main_v15 main_v16 main_cst_4
-- ==== Gate.lean ====
abbrev S8192x1024 : Shape := ⟨2, ![8192, 1024]⟩
abbrev S1x1024 : Shape := ⟨2, ![1, 1024]⟩
abbrev S1024x1024 : Shape := ⟨2, ![1024, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S1024 : Shape := ⟨1, ![1024]⟩
abbrev S256 : Shape := ⟨1, ![256]⟩
abbrev S256x1 : Shape := ⟨2, ![256, 1]⟩

abbrev nBuf : Space → Nat
  | .hbm => 57
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S8192x2048, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x1024, .bf16⟩
  | .hbm, ⟨50, _⟩ => ⟨S1024x1024, .bf16⟩
  | .hbm, ⟨51, _⟩ => ⟨S8192x1024, .bf16⟩
  | .hbm, ⟨52, _⟩ => ⟨S8192x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_v29_3 : Ref sig .tc := ⟨.hbm, 53, rfl⟩
abbrev main_v29_4 : Ref sig .tc := ⟨.hbm, 54, rfl⟩
abbrev main_v29_5 : Ref sig .tc := ⟨.hbm, 55, rfl⟩
abbrev main_v29_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v122 : BitVec 1 := Scalar.cmpi .eq arg0 c31_i32
  let v123 : BitVec 32 := Scalar.extui v122
  let c0_i32_62 : BitVec 32 := 0#32
  let v124 : BitVec 1 := Scalar.cmpi .ne v123 c0_i32_62
  v124

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GateRefIdeal.lean ====
abbrev S8192x1024 : Shape := ⟨2, ![8192, 1024]⟩
abbrev S1x1024 : Shape := ⟨2, ![1, 1024]⟩
abbrev S1024x1024 : Shape := ⟨2, ![1024, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1024x1024, .f32⟩
  | 6 => ⟨S1x1024, .f32⟩
  | 7 => ⟨S8192x2048, .bf16⟩
  | 8 => ⟨S8192x2048, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S1024x1024, .f32⟩
  | 86 => ⟨S1024x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1024, .f32⟩
  | 107 => ⟨S8192x1, .f32⟩
  | 108 => ⟨S8192x1024, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S1024x1024, .bf16⟩
  | 8 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v31_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v31_1 : Ref sig .tc := ⟨.hbm, 57, rfl⟩
abbrev main_v31_0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v35_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v35_1 : Ref sig .tc := ⟨.hbm, 73, rfl⟩
abbrev main_v35_0 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v39 : Ref sig .tc := ⟨.hbm, 81, rfl⟩
abbrev main_cst_6 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v45 : Ref sig .tc := ⟨.hbm, 91, rfl⟩
abbrev main_cst_7 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_8 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_10 : Ref sig .tc := ⟨.hbm, 109, rfl⟩
abbrev main_v60 : Ref sig .tc := ⟨.hbm, 110, rfl⟩
abbrev main_v61 : Ref sig .tc := ⟨.hbm, 111, rfl⟩
abbrev main_cst_11 : Ref sig .tc := ⟨.hbm, 112, rfl⟩
abbrev main_v62 : Ref sig .tc := ⟨.hbm, 113, rfl⟩
abbrev main_v63 : Ref sig .tc := ⟨.hbm, 114, rfl⟩
abbrev main_cst_12 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_13 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_14 : Ref sig .tc := ⟨.hbm, 125, rfl⟩
abbrev main_v72 : Ref sig .tc := ⟨.hbm, 126, rfl⟩
abbrev main_v73 : Ref sig .tc := ⟨.hbm, 127, rfl⟩
abbrev main_cst_15 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_16 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩

abbrev nD : Nat := 1
abbrev τ : Topo := Topo.v7x

variable {F : FTy → Type} [FloatOps F]
-- ==== Wout.lean ====
abbrev S8192x2048 : Shape := ⟨2, ![8192, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c3_i32 : BitVec 32 := 3#32
  let v5 : BitVec 32 := Scalar.maxsi c0_i32_2 v4
  let v6 : BitVec 32 := Scalar.minsi c3_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WoutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Win.lean ====
abbrev S8192x1536 : Shape := ⟨2, ![8192, 1536]⟩
abbrev S8192x1024 : Shape := ⟨2, ![8192, 1024]⟩
abbrev S8192x2048 : Shape := ⟨2, ![8192, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 6
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S8192x2048, .bf16⟩
  | .hbm, ⟨5, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def k0_cond6 (i : grid0.Coords) : BitVec 1 :=
  let arg1 : BitVec 32 := BitVec.ofNat 32 (i 1).val
  let c3_i32_9 : BitVec 32 := 3#32
  let v23 : BitVec 1 := Scalar.cmpi .eq arg1 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg1 c0_i32
  let c3_i32_0 : BitVec 32 := 3#32
  let v4 : BitVec 32 := Scalar.subi arg0 c3_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c9_i32 : BitVec 32 := 9#32
  let v1 : BitVec 1 := Scalar.cmpi .slt arg0 c9_i32
  let v2 : BitVec 1 := Scalar.andi v0 v1
  let c0_i32 : BitVec 32 := 0#32
  let v3 : BitVec 32 := Scalar.select v2 arg1 c0_i32
  let c5_i32_0 : BitVec 32 := 5#32
  let v4 : BitVec 32 := Scalar.subi arg0 c5_i32_0
  let c0_i32_1 : BitVec 32 := 0#32
  let c3_i32 : BitVec 32 := 3#32
  let v5 : BitVec 32 := Scalar.maxsi c0_i32_1 v4
  let v6 : BitVec 32 := Scalar.minsi c3_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg0 c9_i32
  let c11_i32 : BitVec 32 := 11#32
  let v1 : BitVec 1 := Scalar.cmpi .slt arg0 c11_i32
  let v2 : BitVec 1 := Scalar.andi v0 v1
  let c0_i32 : BitVec 32 := 0#32
  let v3 : BitVec 32 := Scalar.select v2 arg1 c0_i32
  let c9_i32_0 : BitVec 32 := 9#32
  let v4 : BitVec 32 := Scalar.subi arg0 c9_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== WinRefIdeal.lean ====
abbrev S8192x1536 : Shape := ⟨2, ![8192, 1536]⟩
abbrev S8192x1024 : Shape := ⟨2, ![8192, 1024]⟩
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S8192x2048, .bf16⟩
  | .hbm, ⟨5, _⟩ => ⟨S8192x1536, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x5632, .f32⟩
  | .hbm, ⟨10, _⟩ => ⟨S_, .f32⟩
  | .hbm, ⟨11, _⟩ => ⟨S2048x5632, .f32⟩
  | .hbm, ⟨12, _⟩ => ⟨S8192x2048, .f32⟩
  | .hbm, ⟨13, _⟩ => ⟨S8192x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S5632x2048, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Head.lean ====
abbrev S8192x2048 : Shape := ⟨2, ![8192, 2048]⟩
abbrev S2048x2048 : Shape := ⟨2, ![2048, 2048]⟩
abbrev S1x6144 : Shape := ⟨2, ![1, 6144]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8192x2048, .bf16⟩
  | .hbm, ⟨10, _⟩ => ⟨S8x128, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S8x128, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadRefIdeal.lean ====
abbrev S8192x2048 : Shape := ⟨2, ![8192, 2048]⟩
abbrev S2048x2048 : Shape := ⟨2, ![2048, 2048]⟩
abbrev S1x6144 : Shape := ⟨2, ![1, 6144]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 124
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S8192x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x2048, .f32⟩
  | .hbm, ⟨88, _⟩ => ⟨S8192x2048, .f32⟩
  | .hbm, ⟨89, _⟩ => ⟨S8192x1, .f32⟩
  | .hbm, ⟨90, _⟩ => ⟨S8192x2048, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x2048, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x2048, .f32⟩
  | .hbm, ⟨113, _⟩ => ⟨S8192x2048, .f32⟩
  | .hbm, ⟨114, _⟩ => ⟨S8192x2048, .f32⟩
  | .hbm, ⟨115, _⟩ => ⟨S8192x2048, .f32⟩
  | .hbm, ⟨116, _⟩ => ⟨S8192x2048, .f32⟩
  | .hbm, ⟨117, _⟩ => ⟨S_, .f32⟩
  | .hbm, ⟨118, _⟩ => ⟨S2048, .f32⟩
  | .hbm, ⟨119, _⟩ => ⟨S1x2048, .f32⟩
  | .hbm, ⟨120, _⟩ => ⟨S8192x2048, .bf16⟩
  | .hbm, ⟨121, _⟩ => ⟨S8192x2048, .f32⟩
  | .hbm, ⟨122, _⟩ => ⟨S8192x2048, .bf16⟩
  | .hbm, ⟨123, _⟩ => ⟨S8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_cst_12 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_cst_23 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_24 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== Inp.lean ====
abbrev S8192x2048 : Shape := ⟨2, ![8192, 2048]⟩
abbrev S1x6144 : Shape := ⟨2, ![1, 6144]⟩
abbrev S2048x5632 : Shape := ⟨2, ![2048, 5632]⟩
abbrev S5632x2048 : Shape := ⟨2, ![5632, 2048]⟩
abbrev S8192x1536 : Shape := ⟨2, ![8192, 1536]⟩
abbrev S8192x1024 : Shape := ⟨2, ![8192, 1024]⟩
abbrev S256x2048 : Shape := ⟨2, ![256, 2048]⟩
abbrev S1x2048 : Shape := ⟨2, ![1, 2048]⟩
abbrev S256x1536 : Shape := ⟨2, ![256, 1536]⟩
abbrev S256x1024 : Shape := ⟨2, ![256, 1024]⟩
abbrev S1536x2048 : Shape := ⟨2, ![1536, 2048]⟩
abbrev S1024x2048 : Shape := ⟨2, ![1024, 2048]⟩
abbrev S2048x2048 : Shape := ⟨2, ![2048, 2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S8192x2048, .bf16⟩
  | .hbm, ⟨6, _⟩ => ⟨S8192x1536, .bf16⟩
  | .hbm, ⟨7, _⟩ => ⟨S8192x1024, .f32⟩
  | .hbm, ⟨8, _⟩ => ⟨S8192x2048, .f32⟩
  | .hbm, ⟨9, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S5632x2048, .bf16⟩
  | .local _ .vmem, ⟨5, _⟩ => ⟨S256x2048, .bf16⟩
  | .local _ .vmem, ⟨6, _⟩ => ⟨S256x2048, .bf16⟩
  | .local _ .vmem, ⟨7, _⟩ => ⟨S256x1536, .bf16⟩
  | .local _ .vmem, ⟨8, _⟩ => ⟨S256x1536, .bf16⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InpRefIdeal.lean ====
abbrev S8192x2048 : Shape := ⟨2, ![8192, 2048]⟩
abbrev S1x6144 : Shape := ⟨2, ![1, 6144]⟩
abbrev S2048x5632 : Shape := ⟨2, ![2048, 5632]⟩
abbrev S1x2048 : Shape := ⟨2, ![1, 2048]⟩
abbrev S_ : Shape := ⟨0, ![]⟩
abbrev S8192x5632 : Shape := ⟨2, ![8192, 5632]⟩
abbrev S8192x1536 : Shape := ⟨2, ![8192, 1536]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S2048x5632, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x5632, .f32⟩
  | .hbm, ⟨14, _⟩ => ⟨S8192x1536, .f32⟩
  | .hbm, ⟨15, _⟩ => ⟨S8192x1024, .f32⟩
  | .hbm, ⟨16, _⟩ => ⟨S8192x2048, .f32⟩
  | .hbm, ⟨17, _⟩ => ⟨S8192x1024, .f32⟩
  | .hbm, ⟨18, _⟩ => ⟨S8192x2048, .bf16⟩
  | .hbm, ⟨19, _⟩ => ⟨S8192x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Dhx.lean ====
abbrev S8192x1536 : Shape := ⟨2, ![8192, 1536]⟩
abbrev S8192x1024 : Shape := ⟨2, ![8192, 1024]⟩
abbrev S8192x2048 : Shape := ⟨2, ![8192, 2048]⟩
abbrev S2048x5632 : Shape := ⟨2, ![2048, 5632]⟩
abbrev S1x6144 : Shape := ⟨2, ![1, 6144]⟩
abbrev S5632x2048 : Shape := ⟨2, ![5632, 2048]⟩
abbrev S1x2048 : Shape := ⟨2, ![1, 2048]⟩
abbrev S256x1536 : Shape := ⟨2, ![256, 1536]⟩
abbrev S256x1024 : Shape := ⟨2, ![256, 1024]⟩
abbrev S256x2048 : Shape := ⟨2, ![256, 2048]⟩
abbrev S4 : Shape := ⟨1, ![4]⟩
abbrev S1 : Shape := ⟨1, ![1]⟩
abbrev S_ : Shape := ⟨0, ![]⟩
abbrev S1536x2048 : Shape := ⟨2, ![1536, 2048]⟩
abbrev S1024x2048 : Shape := ⟨2, ![1024, 2048]⟩
abbrev S2048x2048 : Shape := ⟨2, ![2048, 2048]⟩
abbrev S2048 : Shape := ⟨1, ![2048]⟩

abbrev nBuf : Space → Nat
  | .hbm => 13
  | .vmem => 18
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S2048x5632, .f32⟩
  | .hbm, ⟨5, _⟩ => ⟨S8192x2048, .f32⟩
  | .hbm, ⟨6, _⟩ => ⟨S8192x2048, .f32⟩
  | .hbm, ⟨7, _⟩ => ⟨S1x6144, .f32⟩
  | .hbm, ⟨8, _⟩ => ⟨S5632x2048, .f32⟩
  | .hbm, ⟨9, _⟩ => ⟨S5632x2048, .bf16⟩
  | .hbm, ⟨10, _⟩ => ⟨S8192x2048, .f32⟩
  | .hbm, ⟨11, _⟩ => ⟨S1x2048, .f32⟩
  | .hbm, ⟨12, _⟩ => ⟨S1x2048, .f32⟩
  | .local _ .vmem, ⟨0, _⟩ => ⟨S256x1536, .bf16⟩
  | .local _ .vmem, ⟨1, _⟩ => ⟨S256x1536, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S1x2048, .f32⟩
  | .local _ .vmem, ⟨17, _⟩ => ⟨S5632x2048, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DhxRefIdeal.lean ====
abbrev S8192x1536 : Shape := ⟨2, ![8192, 1536]⟩
abbrev S8192x1024 : Shape := ⟨2, ![8192, 1024]⟩
abbrev S8192x2048 : Shape := ⟨2, ![8192, 2048]⟩
abbrev S2048x5632 : Shape := ⟨2, ![2048, 5632]⟩
abbrev S1x6144 : Shape := ⟨2, ![1, 6144]⟩
abbrev S1x2048 : Shape := ⟨2, ![1, 2048]⟩
abbrev S8192x5632 : Shape := ⟨2, ![8192, 5632]⟩
abbrev S_ : Shape := ⟨0, ![]⟩
abbrev S2048 : Shape := ⟨1, ![2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S2048x5632, .f32⟩
  | .hbm, ⟨5, _⟩ => ⟨S8192x2048, .f32⟩
  | .hbm, ⟨6, _⟩ => ⟨S8192x2048, .f32⟩
  | .hbm, ⟨7, _⟩ => ⟨S1x6144, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x1536, .f32⟩
  | .hbm, ⟨12, _⟩ => ⟨S8192x1024, .f32⟩
  | .hbm, ⟨13, _⟩ => ⟨S8192x2048, .f32⟩
  | .hbm, ⟨14, _⟩ => ⟨S8192x1024, .f32⟩
  | .hbm, ⟨15, _⟩ => ⟨S8192x5632, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Rows.lean ====
/- The arithmetic of one token's row, over the reals, and how the extended reals read it: a row's mean, its centred and
   normalised values, the normalisation's backward pass, the logistic function. Where every value read is a real number,
   the operations of the extended reals are these. -/
module

public import Idealize.ShloMosaic.Lib.Pointwise
public import Idealize.ShloMosaic.Lib.Pipeline.ValueKit

@[expose] public section

noncomputable section

namespace Cert.Rows

open Idealize.ShloMosaic

/-- The small number that a normalisation adds to the variance: the rational that its `f32` word is. -/
def eps : ℝ := 10995116 / 2 ^ 40

theorem eps_pos : 0 < eps := by norm_num [eps]

/-- The mean of a row. -/
def mean {n : ℕ} (x : Fin n → ℝ) : ℝ := (∑ k, x k) / (n : ℝ)

/-- A row less its mean. -/
def cen {n : ℕ} (x : Fin n → ℝ) (j : Fin n) : ℝ := x j - mean x

/-- A row's variance. -/
def var {n : ℕ} (x : Fin n → ℝ) : ℝ := mean fun j => cen x j * cen x j

/-- The reciprocal of a row's standard deviation. -/
def rstd {n : ℕ} (x : Fin n → ℝ) : ℝ := (√(var x + eps))⁻¹

/-- A row normalised. -/
def hat {n : ℕ} (x : Fin n → ℝ) (j : Fin n) : ℝ := cen x j * rstd x

/-- The gradient of a row from the gradient `d` of its normalised values. -/
def back {n : ℕ} (x d : Fin n → ℝ) (j : Fin n) : ℝ :=
  rstd x * (d j - mean d - hat x j * mean fun k => d k * hat x k)

/-- The logistic function. -/
def sg (x : ℝ) : ℝ := 1 / (1 + Real.exp (-x))

/-- The derivative of `x` times its logistic function. -/
def dsilu (x : ℝ) : ℝ := sg x * (1 + x * (1 - sg x))

theorem var_nonneg {n : ℕ} (x : Fin n → ℝ) : 0 ≤ var x :=
  div_nonneg (Finset.sum_nonneg fun _ _ => mul_self_nonneg _) (Nat.cast_nonneg _)

theorem var_pos {n : ℕ} (x : Fin n → ℝ) : 0 < var x + eps := add_pos_of_nonneg_of_pos (var_nonneg x) eps_pos

theorem sum_cen {n : ℕ} [NeZero n] (x : Fin n → ℝ) : ∑ k, cen x k = 0 := by
  have h : (n : ℝ) ≠ 0 := Nat.cast_ne_zero.mpr (NeZero.ne n)
  simp only [cen, mean, Finset.sum_sub_distrib, Finset.sum_const, Finset.card_univ, Fintype.card_fin, nsmul_eq_mul]
  field_simp
  ring

theorem rstd_mul_self {n : ℕ} (x : Fin n → ℝ) : rstd x * rstd x = 1 / (var x + eps) := by
  rw [rstd, ← mul_inv, Real.mul_self_sqrt (var_pos x).le, one_div]

/-- The normalisation's gradient as the rules of differentiation give it: through the centred values, and through the mean
    by the centred values and by the variance. The share through the mean by the variance is zero, a centred row's sum. -/
theorem back_vjp {n : ℕ} [NeZero n] (x d : Fin n → ℝ) (j : Fin n) :
    d j * rstd x + (∑ k, cen x k * d k) * (-(1 / 2) * (rstd x / (var x + eps))) / (n : ℝ) * (2 * cen x j)
      + ((∑ k, -(d k * rstd x))
        + ∑ i, -((∑ k, cen x k * d k) * (-(1 / 2) * (rstd x / (var x + eps))) / (n : ℝ) * (2 * cen x i))) / (n : ℝ)
      = back x d j := by
  have hn : (n : ℝ) ≠ 0 := Nat.cast_ne_zero.mpr (NeZero.ne n)
  have h0 : ∑ i, -((∑ k, cen x k * d k) * (-(1 / 2) * (rstd x / (var x + eps))) / (n : ℝ) * (2 * cen x i)) = 0 := by
    rw [Finset.sum_neg_distrib, ← Finset.mul_sum, ← Finset.mul_sum, sum_cen, mul_zero, mul_zero, neg_zero]
  have h1 : ∑ k, -(d k * rstd x) = -((∑ k, d k) * rstd x) := by rw [Finset.sum_neg_distrib, Finset.sum_mul]
  have h2 : ∑ k, d k * hat x k = (∑ k, cen x k * d k) * rstd x := by
    rw [Finset.sum_mul]
    exact Finset.sum_congr rfl fun k _ => by rw [hat]; ring
  have h3 : rstd x / (var x + eps) = rstd x * (rstd x * rstd x) := by rw [rstd_mul_self]; ring
  rw [h0, h1, h3, back, mean, mean, h2, hat]
  field_simp
  ring

/-! ### Extended reals that are real numbers -/

theorem sum_coe {ι : Type} [Fintype ι] (f : ι → ℝ) : ∑ k, ((f k : ℝ) : EReal) = ((∑ k, f k : ℝ) : EReal) := by
  classical
  induction (Finset.univ : Finset ι) using Finset.induction_on with
  | empty => simp
  | insert a s h ih => rw [Finset.sum_insert h, Finset.sum_insert h, ih, EReal.coe_add]

theorem div_coe_coe (a : ℝ) {b : ℝ} (h : b ≠ 0) : Ideal.div (a : EReal) (b : EReal) = ((a / b : ℝ) : EReal) := by
  rw [Ideal.div_coe h, ← EReal.coe_mul, mul_one_div]

theorem div_nat (a : ℝ) (n : ℕ) [NeZero n] : Ideal.div (a : EReal) ((n : ℝ) : EReal) = ((a / (n : ℝ) : ℝ) : EReal) :=
  div_coe_coe a (Nat.cast_ne_zero.mpr (NeZero.ne n))

theorem mean_coe {n : ℕ} [NeZero n] (x : Fin n → ℝ) :
    Ideal.div ((∑ k, x k : ℝ) : EReal) ((n : ℝ) : EReal) = (mean x : EReal) := div_nat _ _

theorem sig_coe (x : ℝ) : Ideal.div 1 (1 + Ideal.exp ((-x : ℝ) : EReal)) = (sg x : EReal) := by
  have h : (1 + Real.exp (-x)) ≠ 0 := by positivity
  rw [Ideal.exp_coe, ← EReal.coe_one, ← EReal.coe_add, div_coe_coe _ h, sg]

theorem rsqrt_var {n : ℕ} (x : Fin n → ℝ) : Ideal.rsqrt ((var x + eps : ℝ) : EReal) = (rstd x : EReal) := by
  rw [Ideal.rsqrt_coe, if_neg (not_lt.mpr (var_pos x).le), if_neg (var_pos x).ne', rstd]

theorem word_1024 : Ideal.ofBits .f32 0x44800000#32 = (((1024 : ℕ) : ℝ) : EReal) := by
  simp [Ideal.ofBits, Ideal.ieee, -EReal.coe_mul]; norm_num

theorem word_2048 : Ideal.ofBits .f32 0x45000000#32 = (((2048 : ℕ) : ℝ) : EReal) := by
  simp [Ideal.ofBits, Ideal.ieee, -EReal.coe_mul]; norm_num

theorem word_eps : Ideal.ofBits .f32 0x3727C5AC#32 = (eps : EReal) := by
  simp [Ideal.ofBits, Ideal.ieee, -EReal.coe_mul, eps]; norm_num

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

end Cert.Rows

end
-- ==== Proof.GateSpec.lean ====
/- The gradient of the gated convolution's second half, over the reals, one token's row at a time. -/
module

public import proofs.«01_k».proof.Proof.Rows

@[expose] public section

noncomputable section

namespace Cert.GateSpec

open Cert.Rows

/-- A column of the concatenated output's second half. -/
def hi (j : Fin 1024) : Fin 2048 := ⟨1024 + j.val, by omega⟩

variable (dy gc p x lg lb : Fin 1024 → ℝ) (w : Fin 1024 → Fin 1024 → ℝ)

/-- The normalised row scaled and shifted. -/
def u2 (j : Fin 1024) : ℝ := hat x j * lg j + lb j

/-- The row after the nonlinearity: what the pointwise product reads. -/
def act (j : Fin 1024) : ℝ := u2 x lg lb j * sg (u2 x lg lb j)

/-- The gradient of the pointwise product's result. -/
def dp (j : Fin 1024) : ℝ := dy j * (gc j * sg (gc j))

/-- The gradient of the gate. -/
def dgc (j : Fin 1024) : ℝ := dy j * p j * dsilu (gc j)

/-- The gradient of the scaled and shifted row. -/
def du2 (k : Fin 1024) : ℝ := (∑ j, dp dy gc j * w k j) * dsilu (u2 x lg lb k)

/-- The gradient of the row before its normalisation. -/
def du1 : Fin 1024 → ℝ := back x fun j => du2 dy gc x lg lb w j * lg j

end Cert.GateSpec

end
-- ==== Proof.GatePay.lean ====
/- What one block of 256 tokens computes in the backward pass of the gated convolution, over the reals. -/
module

public import proofs.«01_k».proof.Proof.Gen.GateIdeal.Value
public import proofs.«01_k».proof.Proof.GateSpec

@[expose] public section

set_option maxRecDepth 16384

noncomputable section

namespace Cert.GateIdeal.Pay

open Cert.GateIdeal Cert.GateIdeal.Gen Cert.Rows Idealize.ShloMosaic Idealize.ShloMosaic.TcCoe Idealize.SL.Sem

variable {X : FVec Ideal S256x1024 .f32} {x : Fin 256 → Fin 1024 → ℝ} (hX : ∀ r j, X (ix2 r j) = (x r j : EReal))
include hX

theorem pay14 (r : Fin 256) (j : Fin 1024) : k0_pay14 (F := Ideal) X (ix2 r j) = (cen (x r) j : EReal) := by
  pointwise [k0_pay14]
  simp only [hX, sum_coe, word_1024, mean_coe, ← EReal.coe_sub]
  rfl

theorem pay15 (r : Fin 256) : k0_pay15 (F := Ideal) X (ix2 r 0) = (rstd (x r) : EReal) := by
  pointwise [k0_pay15]
  simp only [pay14 hX, sum_coe, word_1024, word_eps, mean_coe, ← EReal.coe_mul, ← EReal.coe_add]
  exact rsqrt_var _

theorem pay16 (r : Fin 256) (j : Fin 1024) : k0_pay16 (F := Ideal) X (ix2 r j) = (hat (x r) j : EReal) := by
  pointwise [k0_pay16]
  simp only [pay14 hX, pay15 hX, ← EReal.coe_mul]
  rfl

theorem pay8 (r : Fin 256) (j : Fin 1024) : k0_pay8 (F := Ideal) X (ix2 r j) = (sg (x r j) : EReal) := by
  pointwise [k0_pay8]
  simp only [hX, zero_sub, ← EReal.coe_neg, sig_coe]

omit hX

variable {D : FVec Ideal S256x1024 .bf16} {dy : Fin 256 → Fin 1024 → ℝ} (hD : ∀ r j, D (ix2 r j) = (dy r j : EReal))
variable {G : FVec Ideal S256x1024 .f32} {gc : Fin 256 → Fin 1024 → ℝ} (hG : ∀ r j, G (ix2 r j) = (gc r j : EReal))
variable {P : FVec Ideal S256x1024 .f32} {p : Fin 256 → Fin 1024 → ℝ} (hP : ∀ r j, P (ix2 r j) = (p r j : EReal))
variable {A : FVec Ideal S1x1024 .f32} {lg : Fin 1024 → ℝ} (hA : ∀ j, A (ix2 0 j) = (lg j : EReal))
variable {B : FVec Ideal S1x1024 .f32} {lb : Fin 1024 → ℝ} (hB : ∀ j, B (ix2 0 j) = (lb j : EReal))
variable {W : FVec Ideal S1024x1024 .bf16} {w : Fin 1024 → Fin 1024 → ℝ} (hW : ∀ k j, W (ix2 k j) = (w k j : EReal))

include hD hG in
theorem pay9 (r : Fin 256) (j : Fin 1024) : k0_pay9 (F := Ideal) D G (ix2 r j) = (GateSpec.dp (dy r) (gc r) j : EReal) := by
  pointwise [k0_pay9]
  simp only [hD, hG, pay8 hG, ← EReal.coe_mul]
  rfl

include hD hG hP in
theorem pay10 (r : Fin 256) (j : Fin 1024) :
    k0_pay10 (F := Ideal) D G P (ix2 r j) = (GateSpec.dgc (dy r) (gc r) (p r) j : EReal) := by
  pointwise [k0_pay10]
  simp only [hD, hG, hP, pay8 hG, ← EReal.coe_one, ← EReal.coe_mul, ← EReal.coe_sub, ← EReal.coe_add]
  rfl

include hD hG in
theorem pay11 (acc : FVec Ideal S1x1024 .f32) (j : Fin 1024) :
    k0_pay11 (F := Ideal) D G acc (ix2 0 j) = acc (ix2 0 j) + ((∑ r, GateSpec.dp (dy r) (gc r) j : ℝ) : EReal) := by
  pointwise [k0_pay11]
  simp only [pay9 hD hG, sum_coe]

include hD hG in
theorem pay12 (r : Fin 256) (j : Fin 1024) : k0_pay12 (F := Ideal) D G (ix2 r j) = (GateSpec.dp (dy r) (gc r) j : EReal) := by
  pointwise [k0_pay12]
  exact pay9 hD hG r j

include hD hG hW in
theorem pay13 (r : Fin 256) (k : Fin 1024) :
    k0_pay13 (F := Ideal) (k0_pay12 D G) W (ix2 r k) = ((∑ j, GateSpec.dp (dy r) (gc r) j * w k j : ℝ) : EReal) := by
  pointwise [k0_pay13]
  simp only [pay12 hD hG, hW, ← EReal.coe_mul, sum_coe]

include hX hA hB in
theorem pay17 (r : Fin 256) (j : Fin 1024) : k0_pay17 (F := Ideal) X A B (ix2 r j) = (GateSpec.u2 (x r) lg lb j : EReal) := by
  pointwise [k0_pay17]
  simp only [pay16 hX, hA, hB, ← EReal.coe_mul, ← EReal.coe_add]
  rfl

include hX hA hB in
theorem pay18 (r : Fin 256) (j : Fin 1024) : k0_pay18 (F := Ideal) X A B (ix2 r j) = (sg (GateSpec.u2 (x r) lg lb j) : EReal) := by
  pointwise [k0_pay18]
  simp only [pay17 hX hA hB, zero_sub, ← EReal.coe_neg, sig_coe]

include hD hG hX hA hB in
theorem pay19 (acc : FVec Ideal S1024x1024 .f32) (k j : Fin 1024) :
    k0_pay20 (F := Ideal) (k0_pay19 (k0_pay12 D G) X A B acc) (ix2 k j)
      = acc (ix2 k j) + ((∑ r, GateSpec.act (x r) lg lb k * GateSpec.dp (dy r) (gc r) j : ℝ) : EReal) := by
  pointwise [k0_pay20, k0_pay19]
  simp only [pay12 hD hG, pay17 hX hA hB, pay18 hX hA hB, ← EReal.coe_mul, sum_coe]
  rfl

include hD hG hX hA hB hW in
theorem pay21 (r : Fin 256) (j : Fin 1024) :
    k0_pay21 (F := Ideal) (k0_pay13 (k0_pay12 D G) W) (k0_pay17 X A B) (k0_pay18 X A B) (ix2 r j)
      = (GateSpec.du2 (dy r) (gc r) (x r) lg lb w j : EReal) := by
  pointwise [k0_pay21]
  simp only [pay13 hD hG hW, pay17 hX hA hB, pay18 hX hA hB, ← EReal.coe_one, ← EReal.coe_mul, ← EReal.coe_sub, ← EReal.coe_add]
  rfl

include hD hG hX hA hB hW in
theorem pay22 (acc : FVec Ideal S1x1024 .f32) (j : Fin 1024) :
    k0_pay22 (F := Ideal) (k0_pay13 (k0_pay12 D G) W) (k0_pay16 X) (k0_pay17 X A B) (k0_pay18 X A B) acc (ix2 0 j)
      = acc (ix2 0 j) + ((∑ r, GateSpec.du2 (dy r) (gc r) (x r) lg lb w j * hat (x r) j : ℝ) : EReal) := by
  pointwise [k0_pay22]
  simp only [pay21 hX hD hG hA hB hW, pay16 hX, ← EReal.coe_mul, sum_coe]

include hD hG hX hA hB hW in
theorem pay23 (acc : FVec Ideal S1x1024 .f32) (j : Fin 1024) :
    k0_pay23 (F := Ideal) (k0_pay13 (k0_pay12 D G) W) (k0_pay17 X A B) (k0_pay18 X A B) acc (ix2 0 j)
      = acc (ix2 0 j) + ((∑ r, GateSpec.du2 (dy r) (gc r) (x r) lg lb w j : ℝ) : EReal) := by
  pointwise [k0_pay23]
  simp only [pay21 hX hD hG hA hB hW, sum_coe]

include hD hG hX hA hB hW in
theorem pay24 (r : Fin 256) (j : Fin 1024) :
    k0_pay24 (F := Ideal) (k0_pay13 (k0_pay12 D G) W) (k0_pay15 X) (k0_pay16 X) A (k0_pay17 X A B) (k0_pay18 X A B) (ix2 r j)
      = (GateSpec.du1 (dy r) (gc r) (x r) lg lb w j : EReal) := by
  pointwise [k0_pay24]
  simp only [pay21 hX hD hG hA hB hW, pay15 hX, pay16 hX, hA, word_1024, ← EReal.coe_mul, sum_coe, mean_coe, ← EReal.coe_sub]
  rfl

include hD hG hX hA hB hW in
theorem pay1 (acc : FVec Ideal S1x1024 .f32) (j : Fin 1024) :
    k0_pay1 (F := Ideal) (k0_pay24 (k0_pay13 (k0_pay12 D G) W) (k0_pay15 X) (k0_pay16 X) A (k0_pay17 X A B) (k0_pay18 X A B)) acc (ix2 0 j)
      = acc (ix2 0 j) + ((∑ r, GateSpec.du1 (dy r) (gc r) (x r) lg lb w j : ℝ) : EReal) := by
  pointwise [k0_pay1]
  simp only [pay24 hX hD hG hA hB hW, sum_coe]

end Cert.GateIdeal.Pay

end
-- ==== Proof.GateOut.lean ====
/- What the gate's backward call writes at one grid point, and what its accumulators hold, in terms of the block's payloads. -/
module

public import proofs.«01_k».proof.Proof.GatePay

@[expose] public section

set_option maxRecDepth 16384

noncomputable section

namespace Cert.GateIdeal.Out

open Cert.GateIdeal Cert.GateIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- What a point finds in the accumulators: what the point before left, or zeros at the first. -/
def before (c : Dev nD) (t : Fin cfg0.N) : FVec Ideal S1x1024 .f32 × FVec Ideal S1x1024 .f32 × FVec Ideal S1x1024 .f32
    × FVec Ideal S1x1024 .f32 × FVec Ideal S1024x1024 .f32 :=
  if t.val % 32 = 0 then (k0_pay3, k0_pay4, k0_pay5, k0_pay6, k0_pay7)
  else (outsAt0 m c (t.val - 1) (Nat.lt_of_le_of_lt (Nat.sub_le _ _) t.isLt)).2.2.2

/-- The gradient of the pointwise product's result, of the block that point `t` reads. -/
abbrev bD (c : Dev nD) (t : Fin cfg0.N) : FVec Ideal S256x1024 .bf16 := k0_pay12 (iblk m c 0 t) (iblk m c 1 t)
abbrev b13 (c : Dev nD) (t : Fin cfg0.N) : FVec Ideal S256x1024 .f32 := k0_pay13 (bD m c t) (iblk m c 6 t)
abbrev b17 (c : Dev nD) (t : Fin cfg0.N) : FVec Ideal S256x1024 .f32 := k0_pay17 (iblk m c 3 t) (iblk m c 4 t) (iblk m c 5 t)
abbrev b18 (c : Dev nD) (t : Fin cfg0.N) : FVec Ideal S256x1024 .f32 := k0_pay18 (iblk m c 3 t) (iblk m c 4 t) (iblk m c 5 t)
abbrev b24 (c : Dev nD) (t : Fin cfg0.N) : FVec Ideal S256x1024 .f32 :=
  k0_pay24 (b13 m c t) (k0_pay15 (iblk m c 3 t)) (k0_pay16 (iblk m c 3 t)) (iblk m c 4 t) (b17 m c t) (b18 m c t)

/-- Everything point `t` leaves, save the product's result, which only the last point writes. -/
def left (c : Dev nD) (t : Fin cfg0.N) : FVec Ideal S256x1024 .bf16 × FVec Ideal S256x1024 .f32 × FVec Ideal S1x1024 .f32
    × FVec Ideal S1x1024 .f32 × FVec Ideal S1x1024 .f32 × FVec Ideal S1x1024 .f32 × FVec Ideal S1024x1024 .f32 :=
  (k0_pay10 (iblk m c 0 t) (iblk m c 1 t) (iblk m c 2 t), b24 m c t,
    k0_pay11 (iblk m c 0 t) (iblk m c 1 t) (before m c t).1,
    k0_pay22 (b13 m c t) (k0_pay16 (iblk m c 3 t)) (b17 m c t) (b18 m c t) (before m c t).2.1,
    k0_pay23 (b13 m c t) (b17 m c t) (b18 m c t) (before m c t).2.2.1,
    k0_pay1 (b24 m c t) (before m c t).2.2.2.1,
    k0_pay20 (k0_pay19 (bD m c t) (iblk m c 3 t) (iblk m c 4 t) (iblk m c 5 t) (before m c t).2.2.2.2))

theorem outs (c : Dev nD) (t : Fin cfg0.N) : (outsAt0 m c t.val t.isLt).2 = left m c t := by
  by_cases h0 : t.val % 32 = 0
  · rw [left, before, if_pos h0, outsAt0_A m c t h0 (by omega)]
    refine Prod.ext ?_ (Prod.ext ?_ (Prod.ext ?_ (Prod.ext ?_ (Prod.ext ?_ (Prod.ext ?_ ?_)))))
    all_goals frame_out
  rw [left, before, if_neg h0]
  by_cases h1 : t.val % 32 = 31
  · rw [outsAt0_C m c t h0 h1]
    refine Prod.ext ?_ (Prod.ext ?_ (Prod.ext ?_ (Prod.ext ?_ (Prod.ext ?_ (Prod.ext ?_ ?_)))))
    all_goals frame_out
    all_goals simp only [(Memref.isWhole_whole cc0_scratch0).read_unread]
  · rw [outsAt0_B m c t h0 h1]
    refine Prod.ext ?_ (Prod.ext ?_ (Prod.ext ?_ (Prod.ext ?_ (Prod.ext ?_ (Prod.ext ?_ ?_)))))
    all_goals frame_out
    all_goals simp only [(Memref.isWhole_whole cc0_scratch0).read_unread]

/-- What the last point writes of the pointwise product's gradient. -/
theorem outs_last (c : Dev nD) (t : Fin cfg0.N) (h1 : t.val % 32 = 31) :
    (outsAt0 m c t.val t.isLt).1 = k0_pay2 (outsAt0 m c t.val t.isLt).2.2.2.2.2.2.2 := by
  rw [outsAt0_C m c t (by omega) h1]
  frame_out

end Cert.GateIdeal.Out

end
-- ==== Proof.GateBlk.lean ====
/- The blocks that the gate's backward call reads at one grid point, over the reals. -/
module

public import proofs.«01_k».proof.Proof.GateOut

@[expose] public section

set_option maxRecDepth 16384

noncomputable section

namespace Cert.GateIdeal.Out

open Cert.GateIdeal Cert.GateIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The arrays that the call reads hold real numbers: the output's gradient, the gate, the gated convolution's result
    before the gate, the rows to normalise, the scale, the shift, the matrix. -/
structure Reals (c : Dev nD) (dy gc p x : Fin 8192 → Fin 1024 → ℝ) (lg lb : Fin 1024 → ℝ) (w : Fin 1024 → Fin 1024 → ℝ) : Prop where
  dy : ∀ i j, (show FVec Ideal S8192x2048 .bf16 from V m c main_arg7) (ix2 i (GateSpec.hi j)) = (dy i j : EReal)
  gc : ∀ i j, (show FVec Ideal S8192x1024 .f32 from V m c main_arg1) (ix2 i j) = (gc i j : EReal)
  p : ∀ i j, (show FVec Ideal S8192x1024 .f32 from V m c main_v27) (ix2 i j) = (p i j : EReal)
  x : ∀ i j, (show FVec Ideal S8192x1024 .f32 from V m c main_v1) (ix2 i j) = (x i j : EReal)
  lg : ∀ j, (show FVec Ideal S1x1024 .f32 from V m c main_arg3) (ix2 0 j) = (lg j : EReal)
  lb : ∀ j, (show FVec Ideal S1x1024 .f32 from V m c main_arg4) (ix2 0 j) = (lb j : EReal)
  w : ∀ k j, (show FVec Ideal S1024x1024 .bf16 from V m c main_v28) (ix2 k j) = (w k j : EReal)

/-- The token that row `r` of point `t`'s block is. -/
def tok (t : Fin cfg0.N) (r : Fin 256) : Fin 8192 :=
  ⟨t.val * 256 + r.val, by have : t.val < 32 := lt_of_lt_of_eq t.isLt N_0; omega⟩

theorem idx : ∀ t : Fin cfg0.N, win0_0.index t = ![t.val, 1] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

section
variable {m} {c : Dev nD} {dy gc p x : Fin 8192 → Fin 1024 → ℝ} {lg lb : Fin 1024 → ℝ} {w : Fin 1024 → Fin 1024 → ℝ}
variable (h : Reals m c dy gc p x lg lb w) (t : Fin cfg0.N)
include h

theorem blk0 (r : Fin 256) (j : Fin 1024) :
    (show FVec Ideal S256x1024 .bf16 from iblk m c 0 t) (ix2 r j) = (dy (tok t r) j : EReal) := by
  rw [← h.dy]
  blk_ext [iblk, idx t, tok, GateSpec.hi]

theorem blk1 (r : Fin 256) (j : Fin 1024) :
    (show FVec Ideal S256x1024 .f32 from iblk m c 1 t) (ix2 r j) = (gc (tok t r) j : EReal) := by
  rw [← h.gc]
  blk_ext [iblk, idx t, tok]

theorem blk2 (r : Fin 256) (j : Fin 1024) :
    (show FVec Ideal S256x1024 .f32 from iblk m c 2 t) (ix2 r j) = (p (tok t r) j : EReal) := by
  rw [← h.p]
  blk_ext [iblk, idx t, tok]

theorem blk3 (r : Fin 256) (j : Fin 1024) :
    (show FVec Ideal S256x1024 .f32 from iblk m c 3 t) (ix2 r j) = (x (tok t r) j : EReal) := by
  rw [← h.x]
  blk_ext [iblk, idx t, tok]

theorem blk4 (j : Fin 1024) : (show FVec Ideal S1x1024 .f32 from iblk m c 4 t) (ix2 0 j) = (lg j : EReal) := by
  rw [← h.lg]
  blk_ext [iblk, idx t]

theorem blk5 (j : Fin 1024) : (show FVec Ideal S1x1024 .f32 from iblk m c 5 t) (ix2 0 j) = (lb j : EReal) := by
  rw [← h.lb]
  blk_ext [iblk, idx t]

theorem blk6 (k j : Fin 1024) : (show FVec Ideal S1024x1024 .bf16 from iblk m c 6 t) (ix2 k j) = (w k j : EReal) := by
  rw [← h.w]
  blk_ext [iblk, idx t]

end

end Cert.GateIdeal.Out

end
-- ==== Proof.GateFinal.lean ====
/- What the gate's backward call leaves in its seven results, over the reals: the results of the tokens' rows, and sums of
   them over all tokens. -/
module

public import proofs.«01_k».proof.Proof.GateBlk

@[expose] public section

set_option maxRecDepth 16384

noncomputable section

namespace Cert.GateIdeal.Out

open Cert.GateIdeal Cert.GateIdeal.Gen Cert.Rows Idealize.ShloMosaic Idealize.ShloMosaic.TcCoe Idealize.SL.Sem
open Idealize.ShloMosaic.Pipeline (Dat)

variable (m : (ℓ : Loc nD τ sig) → Buf (Elt Ideal) ℓ)

section
variable {m} {c : Dev nD} {dy gc p x : Fin 8192 → Fin 1024 → ℝ} {lg lb : Fin 1024 → ℝ} {w : Fin 1024 → Fin 1024 → ℝ}
variable (h : Reals m c dy gc p x lg lb w)
include h

/-- The gate's gradient, token by token. -/
theorem final8 : (dats m 0 c).arrAt 8 (cfgs 0).N
    = fun i : S8192x1024.Idx => (GateSpec.dgc (dy (i 0)) (gc (i 0)) (p (i 0)) (i 1) : EReal) := by
  refine (dats m 0 c).arrAt_eq_of_covers 8 _ (by decide +kernel) fun t hf y => ?_
  blk_simp
  rw [after0_8, outs, left]
  idx_vars y
  refine (Pay.pay10 (blk0 h t) (blk1 h t) (blk2 h t) y0 y1).trans ?_
  have e : ((View.whole main_v29_1).slice (win0_8.rect t)).emb (ix2 y0 y1) = ix2 (tok t y0) y1 := by blk_ext [idx t, tok]
  rw [e]
  rfl

/-- The gradient of the rows before their normalisation, token by token. -/
theorem final9 : (dats m 0 c).arrAt 9 (cfgs 0).N
    = fun i : S8192x1024.Idx => (GateSpec.du1 (dy (i 0)) (gc (i 0)) (x (i 0)) lg lb w (i 1) : EReal) := by
  refine (dats m 0 c).arrAt_eq_of_covers 9 _ (by decide +kernel) fun t hf y => ?_
  blk_simp
  rw [after0_9, outs, left]
  idx_vars y
  refine (Pay.pay24 (blk3 h t) (blk0 h t) (blk1 h t) (blk4 h t) (blk5 h t) (blk6 h t) y0 y1).trans ?_
  have e : ((View.whole main_v29_2).slice (win0_9.rect t)).emb (ix2 y0 y1) = ix2 (tok t y0) y1 := by blk_ext [idx t, tok]
  rw [e]
  rfl

end

end Cert.GateIdeal.Out

end
-- ==== Proof.GateAcc.lean ====
/- What the gate's backward call accumulates over its grid points: sums over all tokens, over the reals. -/
module

public import proofs.«01_k».proof.Proof.GateBlk

@[expose] public section

set_option maxRecDepth 16384

noncomputable section

namespace Cert.GateIdeal.Out

open Cert.GateIdeal Cert.GateIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- An accumulator that starts from zero and gains a block's sum at every point ends with the sum over all tokens. -/
theorem total {ι : Type} (f : (n : ℕ) → n < cfg0.N → ι → EReal) (z : ι → EReal) (g : Fin 8192 → ι → ℝ) (hz : ∀ i, z i = 0)
    (hf : ∀ t : Fin cfg0.N, ∀ i, f t.val t.isLt i
      = (if t.val % 32 = 0 then z else f (t.val - 1) (Nat.lt_of_le_of_lt (Nat.sub_le _ _) t.isLt)) i
        + ((∑ r, g (tok t r) i : ℝ) : EReal))
    (t : Fin cfg0.N) (ht : t.val % 32 = 31) (i : ι) : f t.val t.isLt i = ((∑ k, g k i : ℝ) : EReal) := by
  have hN : cfg0.N = 32 := N_0
  have hlt := t.isLt
  rw [Pipeline.eq_sum_fin_of_reset_step_apply_last f 32 (fun _ => (0 : EReal))
    (fun t i => ((∑ r, g (tok t r) i : ℝ) : EReal))
    (fun t h i => by rw [hf t i, if_pos h, hz]) (fun t h i => by rw [hf t i, if_neg h]) (le_of_eq hN) t (by omega) i,
    zero_add, sum_coe, Fin.sum_univ_tiles 32 256 rfl]
  rfl

section
variable {m} {c : Dev nD} {dy gc p x : Fin 8192 → Fin 1024 → ℝ} {lg lb : Fin 1024 → ℝ} {w : Fin 1024 → Fin 1024 → ℝ}
variable (h : Reals m c dy gc p x lg lb w)
include h

theorem acc10 (t : Fin cfg0.N) (ht : t.val % 32 = 31) (j : Fin 1024) :
    (outsAt0 m c t.val t.isLt).2.2.2.1 (ix2 0 j) = ((∑ i, GateSpec.dp (dy i) (gc i) j : ℝ) : EReal) := by
  refine total (fun n h j => (outsAt0 m c n h).2.2.2.1 (ix2 0 j)) (fun j => k0_pay3 (F := Ideal) (ix2 0 j))
    (fun i j => GateSpec.dp (dy i) (gc i) j) (fun j => by pointwise [k0_pay3]) (fun t j => ?_) t ht j
  rw [outs, left]
  refine (Pay.pay11 (blk0 h t) (blk1 h t) _ j).trans ?_
  rw [before]
  split_ifs <;> rfl

theorem acc11 (t : Fin cfg0.N) (ht : t.val % 32 = 31) (j : Fin 1024) :
    (outsAt0 m c t.val t.isLt).2.2.2.2.1 (ix2 0 j)
      = ((∑ i, GateSpec.du2 (dy i) (gc i) (x i) lg lb w j * hat (x i) j : ℝ) : EReal) := by
  refine total (fun n h j => (outsAt0 m c n h).2.2.2.2.1 (ix2 0 j)) (fun j => k0_pay4 (F := Ideal) (ix2 0 j))
    (fun i j => GateSpec.du2 (dy i) (gc i) (x i) lg lb w j * hat (x i) j) (fun j => by pointwise [k0_pay4]) (fun t j => ?_) t ht j
  rw [outs, left]
  refine (Pay.pay22 (blk3 h t) (blk0 h t) (blk1 h t) (blk4 h t) (blk5 h t) (blk6 h t) _ j).trans ?_
  rw [before]
  split_ifs <;> rfl

theorem acc12 (t : Fin cfg0.N) (ht : t.val % 32 = 31) (j : Fin 1024) :
    (outsAt0 m c t.val t.isLt).2.2.2.2.2.1 (ix2 0 j)
      = ((∑ i, GateSpec.du2 (dy i) (gc i) (x i) lg lb w j : ℝ) : EReal) := by
  refine total (fun n h j => (outsAt0 m c n h).2.2.2.2.2.1 (ix2 0 j)) (fun j => k0_pay5 (F := Ideal) (ix2 0 j))
    (fun i j => GateSpec.du2 (dy i) (gc i) (x i) lg lb w j) (fun j => by pointwise [k0_pay5]) (fun t j => ?_) t ht j
  rw [outs, left]
  refine (Pay.pay23 (blk3 h t) (blk0 h t) (blk1 h t) (blk4 h t) (blk5 h t) (blk6 h t) _ j).trans ?_
  rw [before]
  split_ifs <;> rfl

theorem acc13 (t : Fin cfg0.N) (ht : t.val % 32 = 31) (j : Fin 1024) :
    (outsAt0 m c t.val t.isLt).2.2.2.2.2.2.1 (ix2 0 j)
      = ((∑ i, GateSpec.du1 (dy i) (gc i) (x i) lg lb w j : ℝ) : EReal) := by
  refine total (fun n h j => (outsAt0 m c n h).2.2.2.2.2.2.1 (ix2 0 j)) (fun j => k0_pay6 (F := Ideal) (ix2 0 j))
    (fun i j => GateSpec.du1 (dy i) (gc i) (x i) lg lb w j) (fun j => by pointwise [k0_pay6]) (fun t j => ?_) t ht j
  rw [outs, left]
  refine (Pay.pay1 (blk3 h t) (blk0 h t) (blk1 h t) (blk4 h t) (blk5 h t) (blk6 h t) _ j).trans ?_
  rw [before]
  split_ifs <;> rfl

theorem accW (t : Fin cfg0.N) (ht : t.val % 32 = 31) (k j : Fin 1024) :
    (outsAt0 m c t.val t.isLt).2.2.2.2.2.2.2 (ix2 k j)
      = ((∑ i, GateSpec.act (x i) lg lb k * GateSpec.dp (dy i) (gc i) j : ℝ) : EReal) := by
  refine total (ι := Fin 1024 × Fin 1024) (fun n h q => (outsAt0 m c n h).2.2.2.2.2.2.2 (ix2 q.1 q.2))
    (fun q => k0_pay7 (F := Ideal) (ix2 q.1 q.2))
    (fun i q => GateSpec.act (x i) lg lb q.1 * GateSpec.dp (dy i) (gc i) q.2) (fun q => by pointwise [k0_pay7])
    (fun t q => ?_) t ht (k, j)
  rw [outs, left]
  refine (Pay.pay19 (blk3 h t) (blk0 h t) (blk1 h t) (blk4 h t) (blk5 h t) _ q.1 q.2).trans ?_
  rw [before]
  split_ifs <;> rfl

end

end Cert.GateIdeal.Out

end
-- ==== Proof.GateSums.lean ====
/- What the gate's backward call leaves in its seven results, over the reals: the results of the tokens' rows, and sums of
   them over all tokens. -/
module

public import proofs.«01_k».proof.Proof.GateAcc

@[expose] public section

set_option maxRecDepth 16384

noncomputable section

namespace Cert.GateIdeal.Out

open Cert.GateIdeal Cert.GateIdeal.Gen Cert.Rows Idealize.ShloMosaic Idealize.ShloMosaic.TcCoe Idealize.SL.Sem
open Idealize.ShloMosaic.Pipeline (Dat)

variable (m : (ℓ : Loc nD τ sig) → Buf (Elt Ideal) ℓ)

section
variable {m} {c : Dev nD} {dy gc p x : Fin 8192 → Fin 1024 → ℝ} {lg lb : Fin 1024 → ℝ} {w : Fin 1024 → Fin 1024 → ℝ}
variable (h : Reals m c dy gc p x lg lb w)
include h

/-- The bias's gradient: the sum over the tokens. -/
theorem final10 : (dats m 0 c).arrAt 10 (cfgs 0).N = fun i : S1x1024.Idx => ((∑ k, GateSpec.dp (dy k) (gc k) (i 1) : ℝ) : EReal) := by
  refine (dats m 0 c).arrAt_eq_of_covers 10 _ (by decide +kernel) fun t hf y => ?_
  have ht := (flush0_10 t).mp hf
  blk_simp
  rw [after0_10]
  idx_vars y
  obtain rfl : y0 = 0 := Subsingleton.elim _ _
  refine (acc10 h t ht y1).trans ?_
  have e : ((View.whole main_v29_3).slice (win0_10.rect t)).emb (ix2 (0 : Fin 1) y1) = ix2 (0 : Fin 1) y1 := by blk_ext [idx t]
  rw [e]
  rfl

/-- The scale's gradient. -/
theorem final11 : (dats m 0 c).arrAt 11 (cfgs 0).N = fun i : S1x1024.Idx => ((∑ k, GateSpec.du2 (dy k) (gc k) (x k) lg lb w (i 1) * hat (x k) (i 1) : ℝ) : EReal) := by
  refine (dats m 0 c).arrAt_eq_of_covers 11 _ (by decide +kernel) fun t hf y => ?_
  have ht := (flush0_11 t).mp hf
  blk_simp
  rw [after0_11]
  idx_vars y
  obtain rfl : y0 = 0 := Subsingleton.elim _ _
  refine (acc11 h t ht y1).trans ?_
  have e : ((View.whole main_v29_4).slice (win0_11.rect t)).emb (ix2 (0 : Fin 1) y1) = ix2 (0 : Fin 1) y1 := by blk_ext [idx t]
  rw [e]
  rfl

/-- The shift's gradient. -/
theorem final12 : (dats m 0 c).arrAt 12 (cfgs 0).N = fun i : S1x1024.Idx => ((∑ k, GateSpec.du2 (dy k) (gc k) (x k) lg lb w (i 1) : ℝ) : EReal) := by
  refine (dats m 0 c).arrAt_eq_of_covers 12 _ (by decide +kernel) fun t hf y => ?_
  have ht := (flush0_12 t).mp hf
  blk_simp
  rw [after0_12]
  idx_vars y
  obtain rfl : y0 = 0 := Subsingleton.elim _ _
  refine (acc12 h t ht y1).trans ?_
  have e : ((View.whole main_v29_5).slice (win0_12.rect t)).emb (ix2 (0 : Fin 1) y1) = ix2 (0 : Fin 1) y1 := by blk_ext [idx t]
  rw [e]
  rfl

/-- The convolution bias's gradient. -/
theorem final13 : (dats m 0 c).arrAt 13 (cfgs 0).N = fun i : S1x1024.Idx => ((∑ k, GateSpec.du1 (dy k) (gc k) (x k) lg lb w (i 1) : ℝ) : EReal) := by
  refine (dats m 0 c).arrAt_eq_of_covers 13 _ (by decide +kernel) fun t hf y => ?_
  have ht := (flush0_13 t).mp hf
  blk_simp
  rw [after0_13]
  idx_vars y
  obtain rfl : y0 = 0 := Subsingleton.elim _ _
  refine (acc13 h t ht y1).trans ?_
  have e : ((View.whole main_v29_6).slice (win0_13.rect t)).emb (ix2 (0 : Fin 1) y1) = ix2 (0 : Fin 1) y1 := by blk_ext [idx t]
  rw [e]
  rfl

/-- The matrix's gradient. -/
theorem final7 : (dats m 0 c).arrAt 7 (cfgs 0).N
    = fun i : S1024x1024.Idx => ((∑ k, GateSpec.act (x k) lg lb (i 0) * GateSpec.dp (dy k) (gc k) (i 1) : ℝ) : EReal) := by
  refine (dats m 0 c).arrAt_eq_of_covers 7 _ (by decide +kernel) fun t hf y => ?_
  have ht := (flush0_7 t).mp hf
  blk_simp
  rw [after0_7, outs_last m c t ht]
  pointwise [k0_pay2]
  idx_vars y
  refine (accW h t ht y0 y1).trans ?_
  have e : ((View.whole main_v29_0).slice (win0_7.rect t)).emb (ix2 y0 y1) = ix2 y0 y1 := by blk_ext [idx t]
  rw [e]
  rfl

end

end Cert.GateIdeal.Out

end
-- ==== Proof.GateRef.lean ====
/- What the reference of the gate's backward call computes, over the reals, one token's row at a time. -/
module

public import proofs.«01_k».proof.Proof.Gen.GateRefIdeal.Read
public import proofs.«01_k».proof.Proof.GateSpec

@[expose] public section

set_option maxRecDepth 16384

noncomputable section

namespace Cert.GateRefIdeal.Row

open Cert.GateRefIdeal Cert.GateRefIdeal.Gen Cert.GateRefIdeal.Read Cert.Rows Idealize.ShloMosaic Idealize.ShloMosaic.TcCoe Idealize.SL.Sem

variable {U : FVec Ideal S8192x1024 .f32} {C : FVec Ideal S1x1024 .f32} {x : Fin 8192 → Fin 1024 → ℝ}
variable (hX : ∀ i j, val_main_v3 (F := Ideal) U C (ix2 i j) = (x i j : EReal))
include hX

theorem v9 (i : Fin 8192) (j : Fin 1024) : val_main_v9 (F := Ideal) U C (ix2 i j) = (cen (x i) j : EReal) := by
  pointwise [val_main_v9, val_main_v8, val_main_v7, val_main_v6, val_main_v5, val_main_v4, val_main_cst, val_main_cst_0]
  simp only [hX, sum_coe, word_1024, mean_coe, ← EReal.coe_sub]
  rfl

theorem v18 (i : Fin 8192) (j : Fin 1024) : val_main_v18 (F := Ideal) U C (ix2 i j) = (cen (x i) j : EReal) := by
  pointwise [val_main_v18, val_main_v17, val_main_v7, val_main_v6, val_main_v5, val_main_v4, val_main_cst, val_main_cst_0]
  simp only [hX, sum_coe, word_1024, mean_coe, ← EReal.coe_sub]
  rfl

theorem v12 (i : Fin 8192) (j : Fin 1024) : val_main_v12 (F := Ideal) U C (ix2 i j) = ((2 * cen (x i) j : ℝ) : EReal) := by
  pointwise [val_main_v12, val_main_v11, val_main_cst_1]
  simp only [v9 hX, word_two, ← EReal.coe_mul]

theorem v20 (i : Fin 8192) : val_main_v20 (F := Ideal) U C (ix2 i 0) = ((var (x i) + eps : ℝ) : EReal) := by
  pointwise [val_main_v20, val_main_v19, val_main_cst_4, val_main_v16, val_main_v15, val_main_cst_3, val_main_v14,
    val_main_v13, val_main_cst_2, val_main_v10]
  simp only [v9 hX, sum_coe, word_1024, word_eps, mean_coe, ← EReal.coe_mul, ← EReal.coe_add]
  rfl

theorem v21 (i : Fin 8192) : val_main_v21 (F := Ideal) U C (ix2 i 0) = (rstd (x i) : EReal) := by
  pointwise [val_main_v21]
  rw [v20 hX, rsqrt_var]

theorem v24 (i : Fin 8192) :
    val_main_v24 (F := Ideal) U C (ix2 i 0) = ((-(1 / 2) * (rstd (x i) / (var (x i) + eps)) : ℝ) : EReal) := by
  pointwise [val_main_v24, val_main_v23, val_main_v22, val_main_cst_5]
  rw [v21 hX, v20 hX, div_coe_coe _ (var_pos _).ne', word_neg_half, ← EReal.coe_mul]

theorem v26 (i : Fin 8192) (j : Fin 1024) : val_main_v26 (F := Ideal) U C (ix2 i j) = (hat (x i) j : EReal) := by
  pointwise [val_main_v26, val_main_v25]
  rw [v18 hX, v21 hX, ← EReal.coe_mul]
  rfl

omit hX

variable {A : FVec Ideal S1x1024 .f32} {lg : Fin 1024 → ℝ} (hA : ∀ j, A (ix2 0 j) = (lg j : EReal))
variable {B : FVec Ideal S1x1024 .f32} {lb : Fin 1024 → ℝ} (hB : ∀ j, B (ix2 0 j) = (lb j : EReal))
variable {D : FVec Ideal S8192x2048 .bf16} {dy : Fin 8192 → Fin 1024 → ℝ}
  (hD : ∀ i (j : Fin 1024), D (ix2 i (GateSpec.hi j)) = (dy i j : EReal))
variable {G : FVec Ideal S8192x1024 .f32} {gc : Fin 8192 → Fin 1024 → ℝ} (hG : ∀ r j, G (ix2 r j) = (gc r j : EReal))
variable {W : FVec Ideal S1024x1024 .f32} {w : Fin 1024 → Fin 1024 → ℝ} (hW : ∀ k j, W (ix2 k j) = (w k j : EReal))
variable {P : FVec Ideal S1x1024 .f32} {b : Fin 1024 → ℝ} (hP : ∀ j, P (ix2 0 j) = (b j : EReal))

include hX hA hB in
theorem v30 (i : Fin 8192) (j : Fin 1024) :
    val_main_v30 (F := Ideal) U C A B (ix2 i j) = (GateSpec.u2 (x i) lg lb j : EReal) := by
  pointwise [val_main_v30, val_main_v29, val_main_v28, val_main_v27]
  simp only [v26 hX, hA, hB, ← EReal.coe_mul, ← EReal.coe_add]
  rfl

include hX hA hB in
theorem v31_2 (i : Fin 8192) (j : Fin 1024) :
    val_main_v31_2 (F := Ideal) U C A B (ix2 i j) = (sg (GateSpec.u2 (x i) lg lb j) : EReal) := by
  pointwise [val_main_v31_2, val_main_call0_v4, val_main_call0_v3, val_main_call0_v2, val_main_call0_v1, val_main_call0_v0,
    val_main_call0_cst, val_main_call0_cst_0]
  simp only [v30 hX hA hB, ← EReal.coe_neg, sig_coe]

include hX hA hB in
theorem v31_0 (i : Fin 8192) (j : Fin 1024) :
    val_main_v31_0 (F := Ideal) U C A B (ix2 i j) = (GateSpec.act (x i) lg lb j : EReal) := by
  pointwise [val_main_v31_0]
  simp only [v30 hX hA hB, v31_2 hX hA hB, ← EReal.coe_mul]
  rfl

/-- The gated convolution's result before the gate. -/
def pre (x lg lb : Fin 1024 → ℝ) (w : Fin 1024 → Fin 1024 → ℝ) (b : Fin 1024 → ℝ) (j : Fin 1024) : ℝ :=
  (∑ k, GateSpec.act x lg lb k * w k j) + b j

include hX hA hB hW hP in
theorem v34 (i : Fin 8192) (j : Fin 1024) :
    val_main_v34 (F := Ideal) U C A B W P (ix2 i j) = (pre (x i) lg lb w b j : EReal) := by
  pointwise [val_main_v34, val_main_v33, val_main_v32]
  simp only [v31_0 hX hA hB, hW, hP, ← EReal.coe_mul, sum_coe, ← EReal.coe_add]
  rfl

include hD in
theorem v1 (i : Fin 8192) (j : Fin 1024) : val_main_v1 (F := Ideal) D (ix2 i j) = (dy i j : EReal) := by
  pointwise [val_main_v1, val_main_v0]
  exact hD i j

include hG in
theorem v35_2 (i : Fin 8192) (j : Fin 1024) : val_main_v35_2 (F := Ideal) G (ix2 i j) = (sg (gc i j) : EReal) := by
  pointwise [val_main_v35_2, val_main_call1_v4, val_main_call1_v3, val_main_call1_v2, val_main_call1_v1, val_main_call1_v0,
    val_main_call1_cst, val_main_call1_cst_0]
  simp only [hG, ← EReal.coe_neg, sig_coe]

include hD hG in
theorem v38 (i : Fin 8192) (j : Fin 1024) :
    val_main_v38 (F := Ideal) G D (ix2 i j) = (GateSpec.dp (dy i) (gc i) j : EReal) := by
  pointwise [val_main_v38, val_main_v35_0]
  simp only [v1 hD, v35_2 hG, hG, ← EReal.coe_mul]
  rfl

include hX hA hB hD hG hW hP in
/-- The gate's gradient. -/
theorem v80 (i : Fin 8192) (j : Fin 1024) :
    val_main_v80 (F := Ideal) U G C A B W P D (ix2 i j)
      = (GateSpec.dgc (dy i) (gc i) (pre (x i) lg lb w b) j : EReal) := by
  pointwise [val_main_v80, val_main_v39, val_main_call2_v2, val_main_call2_v1, val_main_call2_v0, val_main_v37,
    val_main_v35_1, val_main_call1_v7, val_main_call1_v6, val_main_call1_cst_1]
  simp only [v34 hX hA hB hW hP, v1 hD, v35_2 hG, hG, ← EReal.coe_one, ← EReal.coe_mul, ← EReal.coe_sub, ← EReal.coe_add]
  refine congrArg _ ?_
  rw [GateSpec.dgc, dsilu]
  ring

include hD hG in
/-- The bias's gradient. -/
theorem v41 (j : Fin 1024) :
    val_main_v41 (F := Ideal) G D (ix2 0 j) = ((∑ i, GateSpec.dp (dy i) (gc i) j : ℝ) : EReal) := by
  pointwise [val_main_v41, val_main_v40, val_main_cst_6]
  simp only [v38 hD hG, sum_coe]

include hX hA hB hD hG in
/-- The matrix's gradient. -/
theorem v79 (k j : Fin 1024) :
    val_main_v79 (F := Ideal) U G C A B D (ix2 k j)
      = ((∑ i, GateSpec.act (x i) lg lb k * GateSpec.dp (dy i) (gc i) j : ℝ) : EReal) := by
  pointwise [val_main_v79, val_main_v43, val_main_v42]
  simp only [v38 hD hG, v31_0 hX hA hB, ← EReal.coe_mul, sum_coe]
  exact congrArg _ (Finset.sum_congr rfl fun i _ => mul_comm _ _)

include hX hA hB hD hG hW in
theorem v45 (i : Fin 8192) (j : Fin 1024) :
    val_main_v45 (F := Ideal) U G C A B W D (ix2 i j) = (GateSpec.du2 (dy i) (gc i) (x i) lg lb w j : EReal) := by
  pointwise [val_main_v45, val_main_call3_v2, val_main_call3_v1, val_main_call3_v0, val_main_v44, val_main_v31_1,
    val_main_call0_v7, val_main_call0_v6, val_main_call0_cst_1]
  simp only [v30 hX hA hB, v31_2 hX hA hB, v38 hD hG, hW, ← EReal.coe_one, ← EReal.coe_mul, sum_coe, ← EReal.coe_sub,
    ← EReal.coe_add]
  refine congrArg _ ?_
  rw [GateSpec.du2, dsilu]
  ring

include hX hA hB hD hG hW in
/-- The shift's gradient. -/
theorem v47 (j : Fin 1024) :
    val_main_v47 (F := Ideal) U G C A B W D (ix2 0 j)
      = ((∑ i, GateSpec.du2 (dy i) (gc i) (x i) lg lb w j : ℝ) : EReal) := by
  pointwise [val_main_v47, val_main_v46, val_main_cst_7]
  simp only [v45 hX hA hB hD hG hW, sum_coe]

include hX hA hB hD hG hW in
/-- The scale's gradient. -/
theorem v50 (j : Fin 1024) :
    val_main_v50 (F := Ideal) U G C A B W D (ix2 0 j)
      = ((∑ i, GateSpec.du2 (dy i) (gc i) (x i) lg lb w j * hat (x i) j : ℝ) : EReal) := by
  pointwise [val_main_v50, val_main_v49, val_main_v48, val_main_cst_8]
  simp only [v45 hX hA hB hD hG hW, v26 hX, ← EReal.coe_mul, sum_coe]
  exact congrArg _ (Finset.sum_congr rfl fun i _ => mul_comm _ _)

include hX hA hB hD hG hW in
theorem v52 (i : Fin 8192) (j : Fin 1024) :
    val_main_v52 (F := Ideal) U G C A B W D (ix2 i j)
      = ((GateSpec.du2 (dy i) (gc i) (x i) lg lb w j * lg j : ℝ) : EReal) := by
  pointwise [val_main_v52, val_main_v51]
  rw [v45 hX hA hB hD hG hW, hA, ← EReal.coe_mul]

include hX hA hB hD hG hW in
theorem v57 (i : Fin 8192) (j : Fin 1024) :
    val_main_v57 (F := Ideal) U G C A B W D (ix2 i j)
      = ((GateSpec.du2 (dy i) (gc i) (x i) lg lb w j * lg j * rstd (x i) : ℝ) : EReal) := by
  pointwise [val_main_v57, val_main_v56]
  rw [v52 hX hA hB hD hG hW, v21 hX, ← EReal.coe_mul]

include hX hA hB hD hG hW in
theorem v66 (i : Fin 8192) (j : Fin 1024) :
    val_main_v66 (F := Ideal) U G C A B W D (ix2 i j)
      = (((∑ k, cen (x i) k * (GateSpec.du2 (dy i) (gc i) (x i) lg lb w k * lg k))
          * (-(1 / 2) * (rstd (x i) / (var (x i) + eps))) / ((1024 : ℕ) : ℝ) * (2 * cen (x i) j) : ℝ) : EReal) := by
  pointwise [val_main_v66, val_main_v65, val_main_v64, val_main_v63, val_main_v62, val_main_v58, val_main_v55, val_main_v54,
    val_main_v53, val_main_cst_9, val_main_cst_11, val_main_cst_12]
  simp only [Fin.sum_univ_one, v18 hX, v52 hX hA hB hD hG hW, v24 hX, v12 hX, word_1024, ← EReal.coe_mul, sum_coe, div_nat]

include hX hA hB hD hG hW in
/-- The gradient of the row before its normalisation. -/
theorem v76 (i : Fin 8192) (j : Fin 1024) :
    val_main_v76 (F := Ideal) U G C A B W D (ix2 i j) = (GateSpec.du1 (dy i) (gc i) (x i) lg lb w j : EReal) := by
  pointwise [val_main_v76, val_main_v75, val_main_v74, val_main_v73, val_main_v72, val_main_v71, val_main_v70, val_main_v69,
    val_main_v68, val_main_v67, val_main_v61, val_main_v60, val_main_v59, val_main_cst_10, val_main_cst_13, val_main_cst_14,
    val_main_cst_15]
  simp only [Fin.sum_univ_one, v57 hX hA hB hD hG hW, v66 hX hA hB hD hG hW, word_1024, ← EReal.coe_neg, sum_coe, ← EReal.coe_add, div_nat]
  exact congrArg _ (back_vjp (x i) (fun j => GateSpec.du2 (dy i) (gc i) (x i) lg lb w j * lg j) j)

include hX hA hB hD hG hW in
/-- The convolution bias's gradient. -/
theorem v78 (j : Fin 1024) :
    val_main_v78 (F := Ideal) U G C A B W D (ix2 0 j)
      = ((∑ i, GateSpec.du1 (dy i) (gc i) (x i) lg lb w j : ℝ) : EReal) := by
  pointwise [val_main_v78, val_main_v77, val_main_cst_16]
  simp only [v76 hX hA hB hD hG hW, sum_coe]

end Cert.GateRefIdeal.Row

end
-- ==== Proof.GateHost.lean ====
/- The arrays that the host's lines prepare for the gate's backward call. -/
module

public import proofs.«01_k».proof.Proof.GateBlk
public import proofs.«01_k».proof.Proof.GateRef

@[expose] public section

set_option maxRecDepth 16384

noncomputable section

namespace Cert.GateIdeal.Out

open Cert.GateIdeal Cert.GateIdeal.Gen Cert.Rows Idealize.ShloMosaic Idealize.ShloMosaic.TcCoe Idealize.SL.Sem

variable (m : (ℓ : Loc nD τ sig) → Buf (Elt Ideal) ℓ) (c : Dev nD)

theorem host1 : (show FVec Ideal S8192x1024 .f32 from V m c main_v1)
    = Cert.GateRefIdeal.Read.val_main_v3 (F := Ideal) (m ((c.tc : Thread nD τ).loc main_arg0)) (m ((c.tc : Thread nD τ).loc main_arg2)) := by
  entry_read
  rfl

theorem host27 : (show FVec Ideal S8192x1024 .f32 from V m c main_v27)
    = Cert.GateRefIdeal.Read.val_main_v34 (F := Ideal) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  entry_read
  rfl

theorem host28 : (show FVec Ideal S1024x1024 .bf16 from V m c main_v28) = m ((c.tc : Thread nD τ).loc main_arg5) := by
  entry_read
  rfl

end Cert.GateIdeal.Out

end
-- ==== Proof.Finite.lean ====
/- What a precondition "every entry is finite" says of an array over the extended reals: each entry is a real number. -/
module

public import proofs.«01_k».proof.Pre_finite_gate
public import proofs.«01_k».proof.Pre_finite_head
public import Idealize.ShloMosaic.Lib.ReduceAll
public import Idealize.ShloMosaic.Lib.Pointwise

@[expose] public section

noncomputable section

namespace Cert.Finite

open Idealize.ShloMosaic

theorem real_of_lt {x : EReal} (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  refine (EReal.coe_toReal ?_ ?_).symm
  · rintro rfl
    simp [Ideal.cmp] at h
  · rintro rfl
    simp [Ideal.cmp] at h

/-- Where the conjunction of "the entry is below infinity in absolute value" over an array is true, each entry is real. -/
theorem all_real {s t u : Shape} [Subsingleton t.Idx] {axes : List (Fin s.rank)} {x top : FVec Ideal s .f32}
    (htop : ∀ i, top i = Ideal.ofBits .f32 0x7F800000#32) {init : u.Idx → BitVec 1} {h : s.ReducesTo axes t} {hu : 0 < u.numel}
    {j : t.Idx} (e : Host.reduce IntOp.andi (cmpf .olt (Host.absf x) top) init h hu j = 1#1) (i : s.Idx) :
    x i = ((EReal.toReal (x i) : ℝ) : EReal) := by
  refine real_of_lt ?_
  have k := Host.reduce_andi_all _ _ h hu j e i
  rw [← htop i]
  exact k

open Cert.Pre_finite_gate in
theorem gate [Cert.Pre_finite_gate.Facts] {a0 a1 : FVec Ideal S8192x1024 .f32} {a2 a3 a4 : FVec Ideal S1x1024 .f32} {a5 : FVec Ideal S1024x1024 .f32}
    {a6 : FVec Ideal S1x1024 .f32} {a7 : FVec Ideal S8192x2048 .bf16}
    (h : Cert.Pre_finite_gate.fn (F := Ideal) a0 a1 a2 a3 a4 a5 a6 a7 = fun _ => 1#1) :
    (∀ i, a0 i = ((EReal.toReal (a0 i) : ℝ) : EReal)) ∧ (∀ i, a1 i = ((EReal.toReal (a1 i) : ℝ) : EReal))
    ∧ (∀ i, a2 i = ((EReal.toReal (a2 i) : ℝ) : EReal)) ∧ (∀ i, a3 i = ((EReal.toReal (a3 i) : ℝ) : EReal))
    ∧ (∀ i, a4 i = ((EReal.toReal (a4 i) : ℝ) : EReal)) ∧ (∀ i, a5 i = ((EReal.toReal (a5 i) : ℝ) : EReal))
    ∧ (∀ i, a6 i = ((EReal.toReal (a6 i) : ℝ) : EReal)) ∧ (∀ i, a7 i = ((EReal.toReal (a7 i) : ℝ) : EReal)) := by
  haveI : Subsingleton S_.Idx := ⟨fun a b => funext fun i => i.elim0⟩
  have h := congrFun h (fun i => i.elim0)
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real (fun _ => rfl) h0, all_real (fun _ => rfl) h1, all_real (fun _ => rfl) h2, all_real (fun _ => rfl) h3,
    all_real (fun _ => rfl) h4, all_real (fun _ => rfl) h5, all_real (fun _ => rfl) h6, all_real (fun _ => rfl) h7⟩

open Cert.Pre_finite_head in
theorem head [Cert.Pre_finite_head.Facts] {a0 : FVec Ideal S8192x2048 .bf16} {a1 : FVec Ideal S2048x2048 .bf16}
    {a2 a3 : FVec Ideal S8192x2048 .f32} {a4 : FVec Ideal S1x6144 .f32} {a5 a6 : FVec Ideal S1x2048 .f32}
    (h : Cert.Pre_finite_head.fn (F := Ideal) a0 a1 a2 a3 a4 a5 a6 = fun _ => 1#1) :
    (∀ i, a0 i = ((EReal.toReal (a0 i) : ℝ) : EReal)) ∧ (∀ i, a1 i = ((EReal.toReal (a1 i) : ℝ) : EReal))
    ∧ (∀ i, a2 i = ((EReal.toReal (a2 i) : ℝ) : EReal)) ∧ (∀ i, a3 i = ((EReal.toReal (a3 i) : ℝ) : EReal))
    ∧ (∀ i, a4 i = ((EReal.toReal (a4 i) : ℝ) : EReal)) ∧ (∀ i, a5 i = ((EReal.toReal (a5 i) : ℝ) : EReal))
    ∧ (∀ i, a6 i = ((EReal.toReal (a6 i) : ℝ) : EReal)) := by
  haveI : Subsingleton S_.Idx := ⟨fun a b => funext fun i => i.elim0⟩
  have h := congrFun h (fun i => i.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real (fun _ => rfl) h0, all_real (fun _ => rfl) h1, all_real (fun _ => rfl) h2, all_real (fun _ => rfl) h3,
    all_real (fun _ => rfl) h4, all_real (fun _ => rfl) h5, all_real (fun _ => rfl) h6⟩

end Cert.Finite

end
-- ==== Proof.GateRefRun.lean ====
/- The reference of the gate's backward call ends with its results and leaves its arguments. -/
module

public import proofs.«01_k».proof.Proof.Gen.GateRefIdeal.Read

@[expose] public section

set_option maxRecDepth 16384

noncomputable section

namespace Cert.GateRefIdeal.Row

open Cert.GateRefIdeal Cert.GateRefIdeal.Gen Cert.GateRefIdeal.Read Idealize.ShloMosaic Idealize.ShloMosaic.TcCoe Idealize.SL.Sem

theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v41) = val_main_v41 (F := Ideal) (m ((c.tc : Thread nD τ).loc main_arg1)) (m ((c.tc : Thread nD τ).loc main_arg7))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := Cert.GateRefIdeal.Value.run (F := Ideal) m g

end Cert.GateRefIdeal.Row

end
-- ==== Proof.GateGrad.lean ====
/- The gate's backward call and its reference end with equal results when every argument is finite. -/
module

public import proofs.«01_k».proof.Defs
public import proofs.«01_k».proof.Proof.GateFinal
public import proofs.«01_k».proof.Proof.GateSums
public import proofs.«01_k».proof.Proof.GateHost
public import proofs.«01_k».proof.Proof.Finite
public import proofs.«01_k».proof.Proof.GateRefRun

@[expose] public section

set_option maxRecDepth 16384

noncomputable section

namespace Cert.GateIdeal.Out

open Cert.GateIdeal Cert.GateIdeal.Gen Cert.Rows Idealize.ShloMosaic Idealize.ShloMosaic.TcCoe Idealize.SL.Sem

/-- The call ends with its results' arrays and leaves its arguments. -/
theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v29_0) = (dats m 0 c).arrAt 7 (cfgs 0).N
      ∧ r.2.mem ((c.tc : Thread nD τ).loc main_v29_1) = (dats m 0 c).arrAt 8 (cfgs 0).N
      ∧ r.2.mem ((c.tc : Thread nD τ).loc main_v29_2) = (dats m 0 c).arrAt 9 (cfgs 0).N
      ∧ r.2.mem ((c.tc : Thread nD τ).loc main_v29_3) = (dats m 0 c).arrAt 10 (cfgs 0).N
      ∧ r.2.mem ((c.tc : Thread nD τ).loc main_v29_4) = (dats m 0 c).arrAt 11 (cfgs 0).N
      ∧ r.2.mem ((c.tc : Thread nD τ).loc main_v29_5) = (dats m 0 c).arrAt 12 (cfgs 0).N
      ∧ r.2.mem ((c.tc : Thread nD τ).loc main_v29_6) = (dats m 0 c).arrAt 13 (cfgs 0).N) := by
  exact θ_run_mono (run_main m g) fun r hr c =>
    ⟨(hr c).1 7, (hr c).1 8, (hr c).1 9, (hr c).1 10, (hr c).1 11, (hr c).1 12, (hr c).1 13⟩

variable [hPre : Cert.Pre_finite_gate.Facts]

set_option maxHeartbeats 2000000 in
open Cert.GateRefIdeal.Read in
/-- At finite arguments the reference's results are the call's. -/
theorem same (m : (ℓ : Loc nD τ sig) → Buf (Elt Ideal) ℓ) (hpre : Cert.Pre_GateIdeal_finite_gate m) (c : Dev nD) :
    val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) = (dats m 0 c).arrAt 7 (cfgs 0).N ∧
    val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (dats m 0 c).arrAt 8 (cfgs 0).N ∧
    val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) = (dats m 0 c).arrAt 9 (cfgs 0).N ∧
    val_main_v41 (F := Ideal) (m ((c.tc : Thread nD τ).loc main_arg1)) (m ((c.tc : Thread nD τ).loc main_arg7)) = (dats m 0 c).arrAt 10 (cfgs 0).N ∧
    val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) = (dats m 0 c).arrAt 11 (cfgs 0).N ∧
    val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) = (dats m 0 c).arrAt 12 (cfgs 0).N ∧
    val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) = (dats m 0 c).arrAt 13 (cfgs 0).N := by
  obtain ⟨rU, rG, rC, rL, rB, rW, rP, rD⟩ := Cert.Finite.gate (hpre c)
  have hX : ∀ i j, val_main_v3 (F := Ideal) (m ((c.tc : Thread nD τ).loc main_arg0)) (m ((c.tc : Thread nD τ).loc main_arg2)) (ix2 i j)
      = ((EReal.toReal ((m ((c.tc : Thread nD τ).loc main_arg0)) (ix2 i j)) + EReal.toReal ((m ((c.tc : Thread nD τ).loc main_arg2)) (ix2 0 j)) : ℝ) : EReal) := fun i j => by
    pointwise [val_main_v3, val_main_v2]
    rw [EReal.coe_add]
    exact congrArg₂ (· + ·) (rU _) (rC _)
  have hL := fun j : Fin 1024 => rL (ix2 0 j)
  have hB := fun j : Fin 1024 => rB (ix2 0 j)
  have hD := fun (i : Fin 8192) (j : Fin 1024) => rD (ix2 i (GateSpec.hi j))
  have hG := fun (i : Fin 8192) (j : Fin 1024) => rG (ix2 i j)
  have hW := fun (k j : Fin 1024) => rW (ix2 k j)
  have hP := fun j : Fin 1024 => rP (ix2 0 j)
  have hR : Reals m c _ _ _ _ _ _ _ :=
    ⟨hD, hG, fun i j => (congrFun (host27 m c) (ix2 i j)).trans (Cert.GateRefIdeal.Row.v34 hX hL hB hW hP i j),
      fun i j => (congrFun (host1 m c) (ix2 i j)).trans (hX i j), hL, hB, fun k j => (congrFun (host28 m c) (ix2 k j)).trans (hW k j)⟩
  refine ⟨?_, ?_, ?_, ?_, ?_, ?_, ?_⟩
  · rw [final7 hR]
    funext y
    idx_vars y
    exact Cert.GateRefIdeal.Row.v79 hX hL hB hD hG y0 y1
  · rw [final8 hR]
    funext y
    idx_vars y
    exact Cert.GateRefIdeal.Row.v80 hX hL hB hD hG hW hP y0 y1
  · rw [final9 hR]
    funext y
    idx_vars y
    exact Cert.GateRefIdeal.Row.v76 hX hL hB hD hG hW y0 y1
  · rw [final10 hR]
    funext y
    idx_vars y
    obtain rfl : y0 = 0 := Subsingleton.elim _ _
    exact Cert.GateRefIdeal.Row.v41 hD hG y1
  · rw [final11 hR]
    funext y
    idx_vars y
    obtain rfl : y0 = 0 := Subsingleton.elim _ _
    exact Cert.GateRefIdeal.Row.v50 hX hL hB hD hG hW y1
  · rw [final12 hR]
    funext y
    idx_vars y
    obtain rfl : y0 = 0 := Subsingleton.elim _ _
    exact Cert.GateRefIdeal.Row.v47 hX hL hB hD hG hW y1
  · rw [final13 hR]
    funext y
    idx_vars y
    obtain rfl : y0 = 0 := Subsingleton.elim _ _
    exact Cert.GateRefIdeal.Row.v78 hX hL hB hD hG hW y1

set_option maxHeartbeats 2000000 in
open Cert.GateRefIdeal.Read in
/-- The same of arrays that equal the call's arguments. -/
theorem same_of (m : (ℓ : Loc nD τ sig) → Buf (Elt Ideal) ℓ) (hpre : Cert.Pre_GateIdeal_finite_gate m) (c : Dev nD)
    (x0 : FVec Ideal S8192x1024 .f32) (x1 : FVec Ideal S8192x1024 .f32) (x2 : FVec Ideal S1x1024 .f32) (x3 : FVec Ideal S1x1024 .f32) (x4 : FVec Ideal S1x1024 .f32) (x5 : FVec Ideal S1024x1024 .f32) (x6 : FVec Ideal S1x1024 .f32) (x7 : FVec Ideal S8192x2048 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) :
    val_main_v79 (F := Ideal) x0 x1 x2 x3 x4 x7 = (dats m 0 c).arrAt 7 (cfgs 0).N ∧
    val_main_v80 (F := Ideal) x0 x1 x2 x3 x4 x5 x6 x7 = (dats m 0 c).arrAt 8 (cfgs 0).N ∧
    val_main_v76 (F := Ideal) x0 x1 x2 x3 x4 x5 x7 = (dats m 0 c).arrAt 9 (cfgs 0).N ∧
    val_main_v41 (F := Ideal) x1 x7 = (dats m 0 c).arrAt 10 (cfgs 0).N ∧
    val_main_v50 (F := Ideal) x0 x1 x2 x3 x4 x5 x7 = (dats m 0 c).arrAt 11 (cfgs 0).N ∧
    val_main_v47 (F := Ideal) x0 x1 x2 x3 x4 x5 x7 = (dats m 0 c).arrAt 12 (cfgs 0).N ∧
    val_main_v78 (F := Ideal) x0 x1 x2 x3 x4 x5 x7 = (dats m 0 c).arrAt 13 (cfgs 0).N := by
  subst e0 e1 e2 e3 e4 e5 e6 e7
  exact same m hpre c

/-- The call ends with its results' arrays and leaves its arguments. -/
theorem whole (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v29_0) = (dats m 0 c).arrAt 7 (cfgs 0).N
      ∧ r.2.mem ((c.tc : Thread nD τ).loc main_v29_1) = (dats m 0 c).arrAt 8 (cfgs 0).N
      ∧ r.2.mem ((c.tc : Thread nD τ).loc main_v29_2) = (dats m 0 c).arrAt 9 (cfgs 0).N
      ∧ r.2.mem ((c.tc : Thread nD τ).loc main_v29_3) = (dats m 0 c).arrAt 10 (cfgs 0).N
      ∧ r.2.mem ((c.tc : Thread nD τ).loc main_v29_4) = (dats m 0 c).arrAt 11 (cfgs 0).N
      ∧ r.2.mem ((c.tc : Thread nD τ).loc main_v29_5) = (dats m 0 c).arrAt 12 (cfgs 0).N
      ∧ r.2.mem ((c.tc : Thread nD τ).loc main_v29_6) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (θ_run_and (ends m g) (unchanged m g)) fun r hr c => ?_
  obtain ⟨h0, h1, h2, h3, h4, h5, h6⟩ := hr.1 c
  exact ⟨h0, h1, h2, h3, h4, h5, h6, hr.2 c⟩

end Cert.GateIdeal.Out

end
-- ==== Proof.GateAlg.lean ====
/- The claim of the gate's backward call. -/
module

public import proofs.«01_k».proof.Proof.GateGrad

@[expose] public section

set_option maxRecDepth 16384

noncomputable section

namespace Cert.GateIdeal.Out

open Cert.GateIdeal Cert.GateIdeal.Gen Cert.Rows Idealize.ShloMosaic Idealize.ShloMosaic.TcCoe Idealize.SL.Sem

/-- The call and the reference end with equal results, whatever finite arguments they start from. -/
theorem algebraic [hPre : Cert.Pre_finite_gate.Facts] : Cert.algebraic_GateIdeal_GateRefIdeal_pre_finite_gate := by
  intro m g m' g' hpre hagree
  refine ⟨_, _, _, _, _, _, _, whole m g, θ_run_mono (Cert.GateRefIdeal.Row.ends m' g') fun r hr c => ?_⟩
  obtain ⟨h0, h1, h2, h3, h4, h5, h6, h⟩ := hr c
  obtain ⟨a0, a1, a2, a3, a4, a5, a6, a7⟩ := hagree c
  obtain ⟨s0, s1, s2, s3, s4, s5, s6⟩ := same_of m hpre c _ _ _ _ _ _ _ _ a0 a1 a2 a3 a4 a5 a6 a7
  exact ⟨h0.trans s0, h1.trans s1, h2.trans s2, h3.trans s3, h4.trans s4, h5.trans s5, h6.trans s6, h⟩

end Cert.GateIdeal.Out

end
-- ==== Proof.Wout.lean ====
/- The gradient of the output projection, written out: the kernel walks the 8192 tokens in four steps of 2048 and adds
   up `ycatᵀ dy` block row by block row; the reference takes the product at once. -/
module

public import proofs.«01_k».proof.Defs
public import proofs.«01_k».proof.Proof.Gen.WoutIdeal.Value
public import proofs.«01_k».proof.Proof.Gen.WoutRefIdeal.Run
public import Idealize.ShloMosaic.Lib.Pointwise
public import Idealize.ShloMosaic.Lib.Pipeline.ValueKit

@[expose] public section

set_option maxRecDepth 16384

noncomputable section

namespace Cert.WoutIdeal.Grad

open Cert.WoutIdeal Cert.WoutIdeal.Gen Idealize.ShloMosaic Idealize.ShloMosaic.TcCoe Idealize.SL.Sem
open Idealize.ShloMosaic.Pipeline (Dat)

variable (m : (ℓ : Loc nD τ sig) → Buf (Elt Ideal) ℓ)

/-- The reference's result: the transposed product of the output's gradient with the product's input. -/
def ref (X D : FVec Ideal S8192x2048 .bf16) : FVec Ideal S2048x2048 .bf16 :=
  truncf .bf16 (transpose S2048x2048 [1, 0] (Host.dotGeneral Cert.WoutRefIdeal.dot_S8192x2048_S8192x2048_S2048x2048_0_0_1_1_n_n none
    (extf .f32 D Cert.WoutRefIdeal.Gen.bitsLt_bf16_f32) (extf .f32 X Cert.WoutRefIdeal.Gen.bitsLt_bf16_f32))
    Cert.WoutRefIdeal.Gen.transposes_S2048x2048_S2048x2048_1_0) Cert.WoutRefIdeal.Gen.bitsLt_bf16_f32

theorem ref_apply (X D : FVec Ideal S8192x2048 .bf16) (j : S2048x2048.Idx) :
    ref X D j = ∑ k : Fin 8192, X (ix2 k (j 0)) * D (ix2 k (j 1)) := by
  pointwise [ref]
  exact Finset.sum_congr rfl fun k _ => mul_comm _ _

theorem zero_apply (j : S512x2048.Idx) : k0_pay1 (F := Ideal) j = 0 := by pointwise [k0_pay1]

theorem add_apply (acc : FVec Ideal S512x2048 .f32) (x : FVec Ideal S2048x512 .bf16) (d : FVec Ideal S2048x2048 .bf16) (j : S512x2048.Idx) :
    k0_pay2 acc x d j = acc j + ∑ k : Fin 2048, x (ix2 k (j 0)) * d (ix2 k (j 1)) := by pointwise [k0_pay2]

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- What the accumulator holds after point `t`: it restarts at every fourth point and adds one product of 2048 tokens at
    each point. -/
theorem scratch_step (c : Dev nD) (t : Fin cfg0.N) (h : ¬ t.val % 4 = 0) (j : S512x2048.Idx) :
    (outsAt0 m c t.val t.isLt).2 j = (outsAt0 m c (t.val - 1) (Nat.lt_of_le_of_lt (Nat.sub_le _ _) t.isLt)).2 j
      + ∑ k : Fin 2048, (show FVec Ideal S2048x512 .bf16 from iblk m c 0 t) (ix2 k (j 0)) * (show FVec Ideal S2048x2048 .bf16 from iblk m c 1 t) (ix2 k (j 1)) := by
  by_cases h3 : t.val % 4 = 3
  · rw [outsAt0_C m c t h h3]
    frame_out
    simp only [(Memref.isWhole_whole cc0_scratch0).read_unread]
    rw [add_apply]
  · rw [outsAt0_B m c t h h3]
    frame_out
    simp only [(Memref.isWhole_whole cc0_scratch0).read_unread]
    rw [add_apply]

theorem scratch_zero (c : Dev nD) (t : Fin cfg0.N) (h : t.val % 4 = 0) (j : S512x2048.Idx) :
    (outsAt0 m c t.val t.isLt).2 j = (0 : EReal)
      + ∑ k : Fin 2048, (show FVec Ideal S2048x512 .bf16 from iblk m c 0 t) (ix2 k (j 0)) * (show FVec Ideal S2048x2048 .bf16 from iblk m c 1 t) (ix2 k (j 1)) := by
  rw [outsAt0_A m c t h (by omega)]
  frame_out
  rw [add_apply, zero_apply]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e : (outsAt0 m c t.val t.isLt).1 = k0_pay3 (outsAt0 m c t.val t.isLt).2 := by
    rw [outsAt0_C m c t h0 h3]
    frame_out
  blk_simp
  rw [after0_2, e]
  have := Pipeline.eq_sum_fin_of_reset_step_apply_of_flush (fun n h => (outsAt0 m c n h).2) 4 (fun _ => (0 : EReal)) _
    (fun t h j => scratch_zero m c t h j) (fun t h j => scratch_step m c t h j) t h3
  pointwise [k0_pay3]
  rw [this]
  idx_vars y
  rw [zero_add]
  rw [ref_apply]
  refine Fin.sum_mul_add_congr fun s k hl => ?_
  blk_point [iblk, V, idx ⟨_, Pipeline.run_point_lt_of_flush t h3 s⟩, idx t]

/-- The call and the reference end with equal results, whatever the arguments. -/
theorem algebraic : Cert.algebraic_WoutIdeal_WoutRefIdeal := by
  pair_intro
  · run_from Gen.run_main m g
  · run_from Cert.WoutRefIdeal.Value.run m' g'
    exact (final m c).symm

end Cert.WoutIdeal.Grad

end
-- ==== Proof.Win.lean ====
/- The gradient of the input projection, transposed: the kernel walks the eleven row blocks of the gradient, each of
   which belongs to one of the four segments of the projection's output gradient, and adds up four products of 2048
   tokens for each; the reference lays the four segments side by side and takes the product at once. -/
module

public import proofs.«01_k».proof.Defs
public import proofs.«01_k».proof.Proof.Gen.WinIdeal.Value
public import proofs.«01_k».proof.Proof.Gen.WinRefIdeal.Run
public import Idealize.ShloMosaic.Lib.Pointwise
public import Idealize.ShloMosaic.Lib.Pipeline.ValueKit

@[expose] public section

set_option maxRecDepth 16384

noncomputable section

namespace Cert.WinIdeal.Grad

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-- The four segments of the projection's output gradient side by side. -/
def side (A : FVec Ideal S8192x1536 .bf16) (B D : FVec Ideal S8192x1024 .bf16) (C : FVec Ideal S8192x2048 .bf16) :
    FVec Ideal Cert.WinRefIdeal.S8192x5632 .f32 :=
  concatenate Cert.WinRefIdeal.S8192x5632 1 [⟨S8192x1536, extf .f32 A Cert.WinRefIdeal.Gen.bitsLt_bf16_f32⟩,
    ⟨S8192x1024, extf .f32 B Cert.WinRefIdeal.Gen.bitsLt_bf16_f32⟩, ⟨S8192x2048, extf .f32 C Cert.WinRefIdeal.Gen.bitsLt_bf16_f32⟩,
    ⟨S8192x1024, extf .f32 D Cert.WinRefIdeal.Gen.bitsLt_bf16_f32⟩]
    Cert.WinRefIdeal.Gen.concatenates_S8192x1536_S8192x1024_S8192x2048_S8192x1024_S8192x5632_d1

/-- The reference's result: the product of the segments side by side, transposed, with the projection's input. -/
def ref (A : FVec Ideal S8192x1536 .bf16) (B : FVec Ideal S8192x1024 .bf16) (C : FVec Ideal S8192x2048 .bf16)
    (D : FVec Ideal S8192x1024 .bf16) (H : FVec Ideal S8192x2048 .bf16) : FVec Ideal S5632x2048 .bf16 :=
  truncf .bf16 (transpose S5632x2048 [1, 0] (transpose Cert.WinRefIdeal.S2048x5632 [1, 0]
    (Host.dotGeneral Cert.WinRefIdeal.dot_S8192x5632_S8192x2048_S5632x2048_0_0_1_1_n_n none (side A B D C)
      (extf .f32 H Cert.WinRefIdeal.Gen.bitsLt_bf16_f32))
    Cert.WinRefIdeal.Gen.transposes_S5632x2048_S2048x5632_1_0) Cert.WinRefIdeal.Gen.transposes_S2048x5632_S5632x2048_1_0)
    Cert.WinRefIdeal.Gen.bitsLt_bf16_f32

/-- A column of the segments side by side, read in the segment it lies in. -/
theorem side_apply (A : FVec Ideal S8192x1536 .bf16) (B D : FVec Ideal S8192x1024 .bf16) (C : FVec Ideal S8192x2048 .bf16)
    (k : Fin 8192) (j : Fin 5632) :
    side A B D C (ix2 k j) = if h0 : j.val < 1536 then A (ix2 k ⟨j.val, h0⟩)
      else if h1 : j.val < 2560 then B (ix2 k ⟨j.val - 1536, by omega⟩)
      else if h2 : j.val < 4608 then C (ix2 k ⟨j.val - 2560, by omega⟩)
      else D (ix2 k ⟨j.val - 4608, by omega⟩) := by
  pointwise [side]
  by_cases h0 : j.val < 1536
  · simp only [h0, dif_pos]
  by_cases h1 : j.val < 2560
  · have h1' : j.val - 1536 < 1024 := by omega
    simp only [h0, h1, h1', dif_pos, dif_neg, not_false_eq_true]
  have h1' : ¬ j.val - 1536 < 1024 := by omega
  by_cases h2 : j.val < 4608
  · have h2' : j.val - 1536 - 1024 < 2048 := by omega
    simp only [h0, h1, h1', h2, h2', dif_pos, dif_neg, not_false_eq_true]
    simp only [Nat.sub_sub, Nat.reduceAdd]
  · have h2' : ¬ j.val - 1536 - 1024 < 2048 := by omega
    simp only [h0, h1, h1', h2, h2', dif_pos, dif_neg, not_false_eq_true]
    simp only [Nat.sub_sub, Nat.reduceAdd]

theorem ref_apply (A : FVec Ideal S8192x1536 .bf16) (B : FVec Ideal S8192x1024 .bf16) (C : FVec Ideal S8192x2048 .bf16)
    (D : FVec Ideal S8192x1024 .bf16) (H : FVec Ideal S8192x2048 .bf16) (j : S5632x2048.Idx) :
    ref A B C D H j = ∑ k : Fin 8192, side A B D C (ix2 k (j 0)) * H (ix2 k (j 1)) := by
  pointwise [ref]

theorem zero_apply (j : S512x2048.Idx) : k0_pay1 (F := Ideal) j = 0 := by pointwise [k0_pay1]

theorem add2_apply (acc : FVec Ideal S512x2048 .f32) (x : FVec Ideal S2048x512 .bf16) (d : FVec Ideal S2048x2048 .bf16) (j : S512x2048.Idx) :
    k0_pay2 acc x d j = acc j + ∑ k : Fin 2048, x (ix2 k (j 0)) * d (ix2 k (j 1)) := by pointwise [k0_pay2]
theorem add3_apply (acc : FVec Ideal S512x2048 .f32) (x : FVec Ideal S2048x512 .bf16) (d : FVec Ideal S2048x2048 .bf16) (j : S512x2048.Idx) :
    k0_pay3 acc x d j = acc j + ∑ k : Fin 2048, x (ix2 k (j 0)) * d (ix2 k (j 1)) := by pointwise [k0_pay3]
theorem add4_apply (acc : FVec Ideal S512x2048 .f32) (x : FVec Ideal S2048x512 .bf16) (d : FVec Ideal S2048x2048 .bf16) (j : S512x2048.Idx) :
    k0_pay4 acc x d j = acc j + ∑ k : Fin 2048, x (ix2 k (j 0)) * d (ix2 k (j 1)) := by pointwise [k0_pay4]
theorem add5_apply (acc : FVec Ideal S512x2048 .f32) (x : FVec Ideal S2048x512 .bf16) (d : FVec Ideal S2048x2048 .bf16) (j : S512x2048.Idx) :
    k0_pay5 acc x d j = acc j + ∑ k : Fin 2048, x (ix2 k (j 0)) * d (ix2 k (j 1)) := by pointwise [k0_pay5]

theorem idx : ∀ t : Fin cfg0.N, (t.val < 12 → win0_0.index t = ![t.val % 4, t.val / 4])
    ∧ (12 ≤ t.val → t.val < 20 → win0_1.index t = ![t.val % 4, t.val / 4 - 3])
    ∧ (20 ≤ t.val → t.val < 36 → win0_2.index t = ![t.val % 4, t.val / 4 - 5])
    ∧ (36 ≤ t.val → win0_3.index t = ![t.val % 4, t.val / 4 - 9])
    ∧ win0_4.index t = ![t.val % 4, 0] ∧ win0_5.index t = ![t.val / 4, 0] := (by decide +kernel : ∀ t : Fin grid0.N, _)

/-- The block of the segment that the row block of point `t` lies in. -/
def seg (c : Dev nD) (t : Fin cfg0.N) : FVec Ideal S2048x512 .bf16 :=
  if t.val < 12 then iblk m c 0 t else if t.val < 20 then iblk m c 1 t else if t.val < 36 then iblk m c 2 t else iblk m c 3 t

/-- What the accumulator holds after a point that does not start a row block: what it held before and one product of
    2048 tokens more. -/
theorem scratch_step (c : Dev nD) (t : Fin cfg0.N) (h : ¬ t.val % 4 = 0) (j : S512x2048.Idx) :
    (outsAt0 m c t.val t.isLt).2 j = (outsAt0 m c (t.val - 1) (Nat.lt_of_le_of_lt (Nat.sub_le _ _) t.isLt)).2 j
      + ∑ k : Fin 2048, seg m c t (ix2 k (j 0)) * (show FVec Ideal S2048x2048 .bf16 from iblk m c 4 t) (ix2 k (j 1)) := by
  have hN : t.val < 44 := t.isLt
  unfold seg
  by_cases h3 : t.val % 4 = 3
  · by_cases a : t.val < 12
    · rw [outsAt0_C m c t h a (by omega) (by omega) (by omega) h3, if_pos a]
      frame_out
      simp only [(Memref.isWhole_whole cc0_scratch0).read_unread]
      rw [add2_apply]
    by_cases b : t.val < 20
    · rw [outsAt0_F m c t h a (by omega) (by omega) (by omega) h3, if_neg a, if_pos b]
      frame_out
      simp only [(Memref.isWhole_whole cc0_scratch0).read_unread]
      rw [add3_apply]
    by_cases d : t.val < 36
    · rw [outsAt0_I m c t h a (by omega) (by omega) (by omega) h3, if_neg a, if_neg b, if_pos d]
      frame_out
      simp only [(Memref.isWhole_whole cc0_scratch0).read_unread]
      rw [add4_apply]
    · rw [outsAt0_L m c t h a (by omega) (by omega) (by omega) h3, if_neg a, if_neg b, if_neg d]
      frame_out
      simp only [(Memref.isWhole_whole cc0_scratch0).read_unread]
      rw [add5_apply]
  · by_cases a : t.val < 12
    · rw [outsAt0_B m c t h a (by omega) (by omega) (by omega) h3, if_pos a]
      frame_out
      simp only [(Memref.isWhole_whole cc0_scratch0).read_unread]
      rw [add2_apply]
    by_cases b : t.val < 20
    · rw [outsAt0_E m c t h a (by omega) (by omega) (by omega) h3, if_neg a, if_pos b]
      frame_out
      simp only [(Memref.isWhole_whole cc0_scratch0).read_unread]
      rw [add3_apply]
    by_cases d : t.val < 36
    · rw [outsAt0_H m c t h a (by omega) (by omega) (by omega) h3, if_neg a, if_neg b, if_pos d]
      frame_out
      simp only [(Memref.isWhole_whole cc0_scratch0).read_unread]
      rw [add4_apply]
    · rw [outsAt0_K m c t h a (by omega) (by omega) (by omega) h3, if_neg a, if_neg b, if_neg d]
      frame_out
      simp only [(Memref.isWhole_whole cc0_scratch0).read_unread]
      rw [add5_apply]

/-- At a point that starts a row block the accumulator holds that point's product alone. -/
theorem scratch_zero (c : Dev nD) (t : Fin cfg0.N) (h : t.val % 4 = 0) (j : S512x2048.Idx) :
    (outsAt0 m c t.val t.isLt).2 j = 0
      + ∑ k : Fin 2048, seg m c t (ix2 k (j 0)) * (show FVec Ideal S2048x2048 .bf16 from iblk m c 4 t) (ix2 k (j 1)) := by
  have hN : t.val < 44 := t.isLt
  unfold seg
  by_cases a : t.val < 12
  · rw [outsAt0_A m c t h a (by omega) (by omega) (by omega) (by omega), if_pos a]
    frame_out
    rw [add2_apply, zero_apply]
  by_cases b : t.val < 20
  · rw [outsAt0_D m c t h a (by omega) (by omega) (by omega) (by omega), if_neg a, if_pos b]
    frame_out
    rw [add3_apply, zero_apply]
  by_cases d : t.val < 36
  · rw [outsAt0_G m c t h a (by omega) (by omega) (by omega) (by omega), if_neg a, if_neg b, if_pos d]
    frame_out
    rw [add4_apply, zero_apply]
  · rw [outsAt0_J m c t h a (by omega) (by omega) (by omega) (by omega), if_neg a, if_neg b, if_neg d]
    frame_out
    rw [add5_apply, zero_apply]

theorem final (c : Dev nD) : (dats m 0 c).arrAt 5 (cfgs 0).N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have hN : t.val < 44 := t.isLt
  have h3 : t.val % 4 = 3 := (flush0_5 t).mp hf
  have h0 : ¬ t.val % 4 = 0 := by omega
  have e : (outsAt0 m c t.val t.isLt).1 = k0_pay6 (outsAt0 m c t.val t.isLt).2 := by
    by_cases a : t.val < 12
    · rw [outsAt0_C m c t h0 a (by omega) (by omega) (by omega) h3]
      frame_out
    by_cases b : t.val < 20
    · rw [outsAt0_F m c t h0 a (by omega) (by omega) (by omega) h3]
      frame_out
    by_cases d : t.val < 36
    · rw [outsAt0_I m c t h0 a (by omega) (by omega) (by omega) h3]
      frame_out
    · rw [outsAt0_L m c t h0 a (by omega) (by omega) (by omega) h3]
      frame_out
  blk_simp
  rw [after0_5, e]
  have := Pipeline.eq_sum_fin_of_reset_step_apply_of_flush (fun n h => (outsAt0 m c n h).2) 4 (fun _ => (0 : EReal)) _
    (fun t h j => scratch_zero m c t h j) (fun t h j => scratch_step m c t h j) t h3
  pointwise [k0_pay6]
  rw [this]
  idx_vars y
  rw [zero_add]
  rw [ref_apply]
  refine Fin.sum_mul_add_congr fun s k hl => ?_
  have i5 := (idx t).2.2.2.2.2
  have hr : ((((View.whole main_v0).slice (win0_5.rect t)).emb (ix2 y0 y1)) 0).val = t.val / 4 * 512 + y0.val := by
    blk_simp [i5]
  refine Eq.trans ?_ (congrArg (· * _) (side_apply _ _ _ _ _ _).symm)
  have hq : (4 * (t.val / 4) + s.val) / 4 = t.val / 4 := by omega
  have hm : (4 * (t.val / 4) + s.val) % 4 = s.val := by omega
  have hp := idx ⟨_, Pipeline.run_point_lt_of_flush t h3 s⟩
  simp only [hq, hm] at hp
  by_cases a : t.val < 12
  · rw [dif_pos (by omega), seg, if_pos (by show 4 * (t.val / 4) + s.val < 12; omega)]
    blk_point [iblk, V, hp.1 (by omega), hp.2.2.2.2.1, i5]
  by_cases b : t.val < 20
  · rw [dif_neg (by omega), dif_pos (by omega), seg, if_neg (by show ¬ 4 * (t.val / 4) + s.val < 12; omega),
      if_pos (by show 4 * (t.val / 4) + s.val < 20; omega)]
    blk_point [iblk, V, hp.2.1 (by omega) (by omega), hp.2.2.2.2.1, i5]
  by_cases d : t.val < 36
  · rw [dif_neg (by omega), dif_neg (by omega), dif_pos (by omega), seg, if_neg (by show ¬ 4 * (t.val / 4) + s.val < 12; omega),
      if_neg (by show ¬ 4 * (t.val / 4) + s.val < 20; omega), if_pos (by show 4 * (t.val / 4) + s.val < 36; omega)]
    blk_point [iblk, V, hp.2.2.1 (by omega) (by omega), hp.2.2.2.2.1, i5]
  · rw [dif_neg (by omega), dif_neg (by omega), dif_neg (by omega), seg, if_neg (by show ¬ 4 * (t.val / 4) + s.val < 12; omega),
      if_neg (by show ¬ 4 * (t.val / 4) + s.val < 20; omega), if_neg (by show ¬ 4 * (t.val / 4) + s.val < 36; omega)]
    blk_point [iblk, V, hp.2.2.2.1 (by omega), hp.2.2.2.2.1, i5]

/-- The call and the reference end with equal results, whatever the arguments. -/
theorem algebraic : Cert.algebraic_WinIdeal_WinRefIdeal := by
  pair_intro
  · run_from Gen.run_main m g
  · run_from Cert.WinRefIdeal.Value.run m' g'
    exact (final m c).symm

end Cert.WinIdeal.Grad

end
-- ==== Proof.HeadSpec.lean ====
/- The gradient of the output product, the residual's normalisation and the squared error, over the reals, one token's row
   at a time. -/
module

public import proofs.«01_k».proof.Proof.Rows

@[expose] public section

noncomputable section

namespace Cert.HeadSpec

open Cert.Rows Idealize.ShloMosaic

/-- The residual's factor: the rational that its `f32` word is. -/
def alpha : ℝ := 9975792 / 2 ^ 23

/-- A column of the modulation's last third. -/
def third (j : Fin 2048) : Fin 6144 := ⟨4096 + j.val, by omega⟩

theorem word_alpha : Ideal.ofBits .f32 0x3F9837F0#32 = (alpha : EReal) := by
  simp [Ideal.ofBits, Ideal.ieee, -EReal.coe_mul, alpha]; norm_num

theorem word_share : Ideal.ofBits .f32 0x3A000000#32 = ((1 / ((2048 : ℕ) : ℝ) : ℝ) : EReal) := by
  simp [Ideal.ofBits, Ideal.ieee, -EReal.coe_mul]; norm_num

section
variable (yc x g : Fin 2048 → ℝ) (w : Fin 2048 → Fin 2048 → ℝ)

/-- The output product's row. -/
def y (j : Fin 2048) : ℝ := ∑ k, yc k * w k j

/-- The row that the normalisation reads: the residual and the gated product. -/
def z (j : Fin 2048) : ℝ := alpha * x j + g j * y yc w j
end

section
variable (z t g lg lb : Fin 2048 → ℝ) (w : Fin 2048 → Fin 2048 → ℝ)

/-- The normalised row less its target. -/
def err (j : Fin 2048) : ℝ := hat z j * lg j + lb j - t j

/-- The gradient of the normalised row, scaled and shifted. -/
def dout (j : Fin 2048) : ℝ := err z t lg lb j * (1 / ((2048 : ℕ) : ℝ))

/-- The row's share of the loss. -/
def loss : ℝ := 1 / 2 * (∑ j, err z t lg lb j * err z t lg lb j) / ((2048 : ℕ) : ℝ)

/-- The gradient of the row before its normalisation. -/
def dz : Fin 2048 → ℝ := back z fun j => dout z t lg lb j * lg j

/-- The gradient of the output product's row. -/
def dy (j : Fin 2048) : ℝ := dz z t lg lb j * g j

/-- The gradient of the row that the output product reads. -/
def dyc (k : Fin 2048) : ℝ := ∑ j, dy z t g lg lb j * w k j
end

end Cert.HeadSpec

end
-- ==== Proof.HeadPay.lean ====
/- What one block of 256 tokens computes of the output product, the normalisation, the loss and their gradients, over the
   reals. -/
module

public import proofs.«01_k».proof.Proof.Gen.HeadIdeal.Value
public import proofs.«01_k».proof.Proof.HeadSpec

@[expose] public section

set_option maxRecDepth 16384

noncomputable section

namespace Cert.HeadIdeal.Pay

open Cert.HeadIdeal Cert.HeadIdeal.Gen Cert.Rows Cert.HeadSpec Idealize.ShloMosaic Idealize.ShloMosaic.TcCoe Idealize.SL.Sem

variable {C : FVec Ideal S256x2048 .bf16} {yc : Fin 256 → Fin 2048 → ℝ} (hC : ∀ r j, C (ix2 r j) = (yc r j : EReal))
variable {W : FVec Ideal S2048x2048 .bf16} {w : Fin 2048 → Fin 2048 → ℝ} (hW : ∀ k j, W (ix2 k j) = (w k j : EReal))
variable {X : FVec Ideal S256x2048 .f32} {x : Fin 256 → Fin 2048 → ℝ} (hX : ∀ r j, X (ix2 r j) = (x r j : EReal))
variable {G : FVec Ideal S1x2048 .f32} {g : Fin 2048 → ℝ} (hG : ∀ j, G (ix2 0 j) = (g j : EReal))
variable {T : FVec Ideal S256x2048 .f32} {t : Fin 256 → Fin 2048 → ℝ} (hT : ∀ r j, T (ix2 r j) = (t r j : EReal))
variable {A : FVec Ideal S1x2048 .f32} {lg : Fin 2048 → ℝ} (hA : ∀ j, A (ix2 0 j) = (lg j : EReal))
variable {B : FVec Ideal S1x2048 .f32} {lb : Fin 2048 → ℝ} (hB : ∀ j, B (ix2 0 j) = (lb j : EReal))

include hC hW in
theorem pay9 (r : Fin 256) (j : Fin 2048) : k0_pay9 (F := Ideal) W C (ix2 r j) = (y (yc r) w j : EReal) := by
  pointwise [k0_pay9]
  simp only [hC, hW, ← EReal.coe_mul, sum_coe]
  rfl

include hC hW hX hG in
theorem pay10 (r : Fin 256) (j : Fin 2048) :
    k0_pay10 (F := Ideal) W C G X (ix2 r j) = (cen (z (yc r) (x r) g w) j : EReal) := by
  pointwise [k0_pay10]
  simp only [pay9 hC hW, hX, hG, word_alpha, ← EReal.coe_mul, ← EReal.coe_add, sum_coe, word_2048, mean_coe, ← EReal.coe_sub]
  rfl

include hC hW hX hG in
theorem pay11 (r : Fin 256) : k0_pay11 (F := Ideal) W C G X (ix2 r 0) = (rstd (z (yc r) (x r) g w) : EReal) := by
  pointwise [k0_pay11]
  simp only [pay10 hC hW hX hG, sum_coe, word_2048, word_eps, mean_coe, ← EReal.coe_mul, ← EReal.coe_add]
  exact rsqrt_var _

include hC hW hX hG in
theorem pay12 (r : Fin 256) (j : Fin 2048) :
    k0_pay12 (F := Ideal) W C G X (ix2 r j) = (hat (z (yc r) (x r) g w) j : EReal) := by
  pointwise [k0_pay12]
  simp only [pay10 hC hW hX hG, pay11 hC hW hX hG, ← EReal.coe_mul]
  rfl

include hC hW hX hG hT hA hB in
theorem pay14 (r : Fin 256) (j : Fin 2048) :
    k0_pay14 (F := Ideal) (k0_pay13 W C G X A B) T (ix2 r j) = (err (z (yc r) (x r) g w) (t r) lg lb j : EReal) := by
  pointwise [k0_pay14, k0_pay13]
  simp only [pay12 hC hW hX hG, hA, hB, hT, ← EReal.coe_mul, ← EReal.coe_add, ← EReal.coe_sub]
  rfl

include hC hW hX hG hT hA hB in
theorem pay15 (acc : FVec Ideal S8x128 .f32) (a : Fin 8) (b : Fin 128) :
    k0_pay15 (F := Ideal) (k0_pay13 W C G X A B) T acc (ix2 a b)
      = acc (ix2 a b) + ((∑ r, loss (z (yc r) (x r) g w) (t r) lg lb : ℝ) : EReal) := by
  pointwise [k0_pay15]
  simp only [pay14 hC hW hX hG hT hA hB, word_half, word_2048, ← EReal.coe_mul, sum_coe, div_nat]
  simp only [Fin.sum_univ_one, loss, ← Finset.sum_div, ← Finset.mul_sum]

include hC hW hX hG hT hA hB in
theorem pay16 (r : Fin 256) (j : Fin 2048) :
    k0_pay16 (F := Ideal) (k0_pay13 W C G X A B) T (ix2 r j) = (dout (z (yc r) (x r) g w) (t r) lg lb j : EReal) := by
  pointwise [k0_pay16]
  simp only [pay14 hC hW hX hG hT hA hB, word_share, ← EReal.coe_mul]
  rfl

include hC hW hX hG hT hA hB in
theorem pay17 (acc : FVec Ideal S1x2048 .f32) (j : Fin 2048) :
    k0_pay17 (F := Ideal) (k0_pay12 W C G X) (k0_pay13 W C G X A B) T acc (ix2 0 j)
      = acc (ix2 0 j) + ((∑ r, dout (z (yc r) (x r) g w) (t r) lg lb j * hat (z (yc r) (x r) g w) j : ℝ) : EReal) := by
  pointwise [k0_pay17]
  simp only [pay16 hC hW hX hG hT hA hB, pay12 hC hW hX hG, ← EReal.coe_mul, sum_coe]

include hC hW hX hG hT hA hB in
theorem pay18 (acc : FVec Ideal S1x2048 .f32) (j : Fin 2048) :
    k0_pay18 (F := Ideal) (k0_pay13 W C G X A B) T acc (ix2 0 j)
      = acc (ix2 0 j) + ((∑ r, dout (z (yc r) (x r) g w) (t r) lg lb j : ℝ) : EReal) := by
  pointwise [k0_pay18]
  simp only [pay16 hC hW hX hG hT hA hB, sum_coe]

include hC hW hX hG hT hA hB in
theorem pay19 (r : Fin 256) (j : Fin 2048) :
    k0_pay19 (F := Ideal) A (k0_pay13 W C G X A B) T (ix2 r j)
      = ((dout (z (yc r) (x r) g w) (t r) lg lb j * lg j : ℝ) : EReal) := by
  pointwise [k0_pay19]
  simp only [pay16 hC hW hX hG hT hA hB, hA, ← EReal.coe_mul]

/-- The gradient of the block before its normalisation, of the values that the block computed before. -/
abbrev dzBlk (C : FVec Ideal S256x2048 .bf16) (W : FVec Ideal S2048x2048 .bf16) (X : FVec Ideal S256x2048 .f32)
    (G : FVec Ideal S1x2048 .f32) (T : FVec Ideal S256x2048 .f32) (A B : FVec Ideal S1x2048 .f32) : FVec Ideal S256x2048 .f32 :=
  k0_pay1 (F := Ideal) (k0_pay11 W C G X) (k0_pay12 W C G X) (k0_pay19 A (k0_pay13 W C G X A B) T)
    (k0_pay20 A (k0_pay13 W C G X A B) T) k0_pay21

include hC hW hX hG hT hA hB in
theorem pay1 (r : Fin 256) (j : Fin 2048) :
    dzBlk C W X G T A B (ix2 r j) = (dz (z (yc r) (x r) g w) (t r) lg lb j : EReal) := by
  pointwise [k0_pay1, k0_pay20, k0_pay21]
  simp only [pay19 hC hW hX hG hT hA hB, pay11 hC hW hX hG, pay12 hC hW hX hG, word_2048, ← EReal.coe_mul, sum_coe, mean_coe,
    ← EReal.coe_sub]
  rfl

include hC hW hX hG hT hA hB in
theorem pay2 (acc : FVec Ideal S1x2048 .f32) (j : Fin 2048) :
    k0_pay2 (F := Ideal) (k0_pay9 W C) (k0_pay11 W C G X) (k0_pay12 W C G X) (k0_pay19 A (k0_pay13 W C G X A B) T)
      (k0_pay20 A (k0_pay13 W C G X A B) T) k0_pay21 acc (ix2 0 j)
      = acc (ix2 0 j) + ((∑ r, dz (z (yc r) (x r) g w) (t r) lg lb j * y (yc r) w j : ℝ) : EReal) := by
  pointwise [k0_pay2]
  simp only [pay1 hC hW hX hG hT hA hB, pay9 hC hW, ← EReal.coe_mul, sum_coe]

include hC hW hX hG hT hA hB in
theorem pay3 (r : Fin 256) (j : Fin 2048) :
    k0_pay3 (F := Ideal) G (k0_pay11 W C G X) (k0_pay12 W C G X) (k0_pay19 A (k0_pay13 W C G X A B) T)
      (k0_pay20 A (k0_pay13 W C G X A B) T) k0_pay21 (ix2 r j)
      = (dy (z (yc r) (x r) g w) (t r) g lg lb j : EReal) := by
  pointwise [k0_pay3]
  simp only [pay1 hC hW hX hG hT hA hB, hG, ← EReal.coe_mul]
  rfl

include hC hW hX hG hT hA hB in
theorem pay4 (r : Fin 256) (k : Fin 2048) :
    k0_pay4 (F := Ideal) W G (k0_pay11 W C G X) (k0_pay12 W C G X) (k0_pay19 A (k0_pay13 W C G X A B) T)
      (k0_pay20 A (k0_pay13 W C G X A B) T) k0_pay21 (ix2 r k)
      = (dyc (z (yc r) (x r) g w) (t r) g lg lb w k : EReal) := by
  pointwise [k0_pay4]
  simp only [pay3 hC hW hX hG hT hA hB, hW, ← EReal.coe_mul, sum_coe]
  rfl

end Cert.HeadIdeal.Pay

end
-- ==== Proof.HeadOut.lean ====
/- What the head's call writes at one grid point, and what its accumulators hold, in terms of the block's payloads. -/
module

public import proofs.«01_k».proof.Proof.HeadPay

@[expose] public section

set_option maxRecDepth 16384

noncomputable section

namespace Cert.HeadIdeal.Out

open Cert.HeadIdeal Cert.HeadIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- What a point finds in the accumulators: what the point before left, or zeros at the first. -/
def before (c : Dev nD) (t : Fin cfg0.N) : FVec Ideal S8x128 .f32 × FVec Ideal S1x2048 .f32 × FVec Ideal S1x2048 .f32
    × FVec Ideal S1x2048 .f32 :=
  if t.val % 32 = 0 then (k0_pay5, k0_pay6, k0_pay7, k0_pay8)
  else (outsAt0 m c (t.val - 1) (Nat.lt_of_le_of_lt (Nat.sub_le _ _) t.isLt)).2.2.2

abbrev b9 (c : Dev nD) (t : Fin cfg0.N) : FVec Ideal S256x2048 .f32 := k0_pay9 (iblk m c 1 t) (iblk m c 0 t)
abbrev b11 (c : Dev nD) (t : Fin cfg0.N) : FVec Ideal S256x1 .f32 :=
  k0_pay11 (iblk m c 1 t) (iblk m c 0 t) (iblk m c 4 t) (iblk m c 2 t)
abbrev b12 (c : Dev nD) (t : Fin cfg0.N) : FVec Ideal S256x2048 .f32 :=
  k0_pay12 (iblk m c 1 t) (iblk m c 0 t) (iblk m c 4 t) (iblk m c 2 t)
abbrev b13 (c : Dev nD) (t : Fin cfg0.N) : FVec Ideal S256x2048 .f32 :=
  k0_pay13 (iblk m c 1 t) (iblk m c 0 t) (iblk m c 4 t) (iblk m c 2 t) (iblk m c 5 t) (iblk m c 6 t)
abbrev b19 (c : Dev nD) (t : Fin cfg0.N) : FVec Ideal S256x2048 .f32 := k0_pay19 (iblk m c 5 t) (b13 m c t) (iblk m c 3 t)
abbrev b20 (c : Dev nD) (t : Fin cfg0.N) : FVec Ideal S256x1 .f32 := k0_pay20 (iblk m c 5 t) (b13 m c t) (iblk m c 3 t)

/-- Everything that point `t` leaves. -/
def left (c : Dev nD) (t : Fin cfg0.N) : FVec Ideal S256x2048 .f32 × FVec Ideal S256x2048 .bf16 × FVec Ideal S256x2048 .bf16
    × FVec Ideal S8x128 .f32 × FVec Ideal S1x2048 .f32 × FVec Ideal S1x2048 .f32 × FVec Ideal S1x2048 .f32 :=
  (k0_pay1 (b11 m c t) (b12 m c t) (b19 m c t) (b20 m c t) k0_pay21,
    k0_pay3 (iblk m c 4 t) (b11 m c t) (b12 m c t) (b19 m c t) (b20 m c t) k0_pay21,
    k0_pay4 (iblk m c 1 t) (iblk m c 4 t) (b11 m c t) (b12 m c t) (b19 m c t) (b20 m c t) k0_pay21,
    k0_pay15 (b13 m c t) (iblk m c 3 t) (before m c t).1,
    k0_pay17 (b12 m c t) (b13 m c t) (iblk m c 3 t) (before m c t).2.1,
    k0_pay18 (b13 m c t) (iblk m c 3 t) (before m c t).2.2.1,
    k0_pay2 (b9 m c t) (b11 m c t) (b12 m c t) (b19 m c t) (b20 m c t) k0_pay21 (before m c t).2.2.2)

theorem outs (c : Dev nD) (t : Fin cfg0.N) : outsAt0 m c t.val t.isLt = left m c t := by
  by_cases h0 : t.val % 32 = 0
  · rw [left, before, if_pos h0, outsAt0_A m c t h0]
    refine Prod.ext ?_ (Prod.ext ?_ (Prod.ext ?_ (Prod.ext ?_ (Prod.ext ?_ (Prod.ext ?_ ?_)))))
    all_goals frame_out
  · rw [left, before, if_neg h0, outsAt0_B m c t h0]
    refine Prod.ext ?_ (Prod.ext ?_ (Prod.ext ?_ (Prod.ext ?_ (Prod.ext ?_ (Prod.ext ?_ ?_)))))
    all_goals frame_out

end Cert.HeadIdeal.Out

end
-- ==== Proof.HeadBlk.lean ====
/- The blocks that the head's call reads at one grid point, over the reals. -/
module

public import proofs.«01_k».proof.Proof.HeadOut

@[expose] public section

set_option maxRecDepth 16384

noncomputable section

namespace Cert.HeadIdeal.Out

open Cert.HeadIdeal Cert.HeadIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The arrays that the call reads hold real numbers: the rows of the output product, its matrix, the residual, the target,
    the gate, the scale, the shift. -/
structure Reals (c : Dev nD) (yc : Fin 8192 → Fin 2048 → ℝ) (w : Fin 2048 → Fin 2048 → ℝ) (x tg : Fin 8192 → Fin 2048 → ℝ)
    (g lg lb : Fin 2048 → ℝ) : Prop where
  yc : ∀ i j, (show FVec Ideal S8192x2048 .bf16 from V m c main_arg0) (ix2 i j) = (yc i j : EReal)
  w : ∀ k j, (show FVec Ideal S2048x2048 .bf16 from V m c main_arg1) (ix2 k j) = (w k j : EReal)
  x : ∀ i j, (show FVec Ideal S8192x2048 .f32 from V m c main_arg2) (ix2 i j) = (x i j : EReal)
  tg : ∀ i j, (show FVec Ideal S8192x2048 .f32 from V m c main_arg3) (ix2 i j) = (tg i j : EReal)
  g : ∀ j, (show FVec Ideal S1x6144 .f32 from V m c main_arg4) (ix2 0 (HeadSpec.third j)) = (g j : EReal)
  lg : ∀ j, (show FVec Ideal S1x2048 .f32 from V m c main_arg5) (ix2 0 j) = (lg j : EReal)
  lb : ∀ j, (show FVec Ideal S1x2048 .f32 from V m c main_arg6) (ix2 0 j) = (lb j : EReal)

/-- The token that row `r` of point `t`'s block is. -/
def tok (t : Fin cfg0.N) (r : Fin 256) : Fin 8192 :=
  ⟨t.val * 256 + r.val, by have : t.val < 32 := lt_of_lt_of_eq t.isLt N_0; omega⟩

theorem idx : ∀ t : Fin cfg0.N, win0_0.index t = ![t.val, 0] ∧ win0_1.index t = ![0, 0] ∧ win0_2.index t = ![t.val, 0]
    ∧ win0_3.index t = ![t.val, 0] ∧ win0_4.index t = ![0, 2] ∧ win0_5.index t = ![0, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

section
variable {m} {c : Dev nD} {yc : Fin 8192 → Fin 2048 → ℝ} {w : Fin 2048 → Fin 2048 → ℝ} {x tg : Fin 8192 → Fin 2048 → ℝ}
  {g lg lb : Fin 2048 → ℝ}
variable (h : Reals m c yc w x tg g lg lb) (t : Fin cfg0.N)
include h

theorem blk0 (r : Fin 256) (j : Fin 2048) :
    (show FVec Ideal S256x2048 .bf16 from iblk m c 0 t) (ix2 r j) = (yc (tok t r) j : EReal) := by
  rw [← h.yc]
  blk_ext [iblk, idx t, tok]

theorem blk1 (k j : Fin 2048) : (show FVec Ideal S2048x2048 .bf16 from iblk m c 1 t) (ix2 k j) = (w k j : EReal) := by
  rw [← h.w]
  blk_ext [iblk, idx t]

theorem blk2 (r : Fin 256) (j : Fin 2048) :
    (show FVec Ideal S256x2048 .f32 from iblk m c 2 t) (ix2 r j) = (x (tok t r) j : EReal) := by
  rw [← h.x]
  blk_ext [iblk, idx t, tok]

theorem blk3 (r : Fin 256) (j : Fin 2048) :
    (show FVec Ideal S256x2048 .f32 from iblk m c 3 t) (ix2 r j) = (tg (tok t r) j : EReal) := by
  rw [← h.tg]
  blk_ext [iblk, idx t, tok]

theorem blk4 (j : Fin 2048) : (show FVec Ideal S1x2048 .f32 from iblk m c 4 t) (ix2 0 j) = (g j : EReal) := by
  rw [← h.g]
  blk_ext [iblk, idx t, HeadSpec.third]

theorem blk5 (j : Fin 2048) : (show FVec Ideal S1x2048 .f32 from iblk m c 5 t) (ix2 0 j) = (lg j : EReal) := by
  rw [← h.lg]
  blk_ext [iblk, idx t]

theorem blk6 (j : Fin 2048) : (show FVec Ideal S1x2048 .f32 from iblk m c 6 t) (ix2 0 j) = (lb j : EReal) := by
  rw [← h.lb]
  blk_ext [iblk, idx t]

end

end Cert.HeadIdeal.Out

end
-- ==== Proof.HeadAcc.lean ====
/- What the head's call accumulates over its grid points: sums over all tokens, over the reals. -/
module

public import proofs.«01_k».proof.Proof.HeadBlk

@[expose] public section

set_option maxRecDepth 16384

noncomputable section

namespace Cert.HeadIdeal.Out

open Cert.HeadIdeal Cert.HeadIdeal.Gen Cert.Rows Cert.HeadSpec Idealize.ShloMosaic Idealize.ShloMosaic.TcCoe Idealize.SL.Sem
open Idealize.ShloMosaic.Pipeline (Dat)

variable (m : (ℓ : Loc nD τ sig) → Buf (Elt Ideal) ℓ)

/-- An accumulator that starts from zero and gains a block's sum at every point ends with the sum over all tokens. -/
theorem total {ι : Type} (f : (n : ℕ) → n < cfg0.N → ι → EReal) (z : ι → EReal) (g : Fin 8192 → ι → ℝ) (hz : ∀ i, z i = 0)
    (hf : ∀ t : Fin cfg0.N, ∀ i, f t.val t.isLt i
      = (if t.val % 32 = 0 then z else f (t.val - 1) (Nat.lt_of_le_of_lt (Nat.sub_le _ _) t.isLt)) i
        + ((∑ r, g (tok t r) i : ℝ) : EReal))
    (t : Fin cfg0.N) (ht : t.val % 32 = 31) (i : ι) : f t.val t.isLt i = ((∑ k, g k i : ℝ) : EReal) := by
  have hN : cfg0.N = 32 := N_0
  have hlt := t.isLt
  rw [Pipeline.eq_sum_fin_of_reset_step_apply_last f 32 (fun _ => (0 : EReal))
    (fun t i => ((∑ r, g (tok t r) i : ℝ) : EReal))
    (fun t h i => by rw [hf t i, if_pos h, hz]) (fun t h i => by rw [hf t i, if_neg h]) (le_of_eq hN) t (by omega) i,
    zero_add, sum_coe, Fin.sum_univ_tiles 32 256 rfl]
  rfl

section
variable {m} {c : Dev nD} {yc : Fin 8192 → Fin 2048 → ℝ} {w : Fin 2048 → Fin 2048 → ℝ} {x tg : Fin 8192 → Fin 2048 → ℝ}
  {g lg lb : Fin 2048 → ℝ}
variable (h : Reals m c yc w x tg g lg lb)
include h

theorem acc10 (t : Fin cfg0.N) (ht : t.val % 32 = 31) (a : Fin 8) (b : Fin 128) :
    (outsAt0 m c t.val t.isLt).2.2.2.1 (ix2 a b) = ((∑ i, loss (z (yc i) (x i) g w) (tg i) lg lb : ℝ) : EReal) := by
  refine total (ι := Fin 8 × Fin 128) (fun n h q => (outsAt0 m c n h).2.2.2.1 (ix2 q.1 q.2))
    (fun q => k0_pay5 (F := Ideal) (ix2 q.1 q.2)) (fun i q => loss (z (yc i) (x i) g w) (tg i) lg lb)
    (fun q => by pointwise [k0_pay5]) (fun t q => ?_) t ht (a, b)
  rw [outs, left]
  refine (Pay.pay15 (blk0 h t) (blk1 h t) (blk2 h t) (blk4 h t) (blk3 h t) (blk5 h t) (blk6 h t) _ q.1 q.2).trans ?_
  rw [before]
  split_ifs <;> rfl

theorem acc11 (t : Fin cfg0.N) (ht : t.val % 32 = 31) (j : Fin 2048) :
    (outsAt0 m c t.val t.isLt).2.2.2.2.1 (ix2 0 j)
      = ((∑ i, dout (z (yc i) (x i) g w) (tg i) lg lb j * hat (z (yc i) (x i) g w) j : ℝ) : EReal) := by
  refine total (fun n h j => (outsAt0 m c n h).2.2.2.2.1 (ix2 0 j)) (fun j => k0_pay6 (F := Ideal) (ix2 0 j))
    (fun i j => dout (z (yc i) (x i) g w) (tg i) lg lb j * hat (z (yc i) (x i) g w) j) (fun j => by pointwise [k0_pay6])
    (fun t j => ?_) t ht j
  rw [outs, left]
  refine (Pay.pay17 (blk0 h t) (blk1 h t) (blk2 h t) (blk4 h t) (blk3 h t) (blk5 h t) (blk6 h t) _ j).trans ?_
  rw [before]
  split_ifs <;> rfl

theorem acc12 (t : Fin cfg0.N) (ht : t.val % 32 = 31) (j : Fin 2048) :
    (outsAt0 m c t.val t.isLt).2.2.2.2.2.1 (ix2 0 j)
      = ((∑ i, dout (z (yc i) (x i) g w) (tg i) lg lb j : ℝ) : EReal) := by
  refine total (fun n h j => (outsAt0 m c n h).2.2.2.2.2.1 (ix2 0 j)) (fun j => k0_pay7 (F := Ideal) (ix2 0 j))
    (fun i j => dout (z (yc i) (x i) g w) (tg i) lg lb j) (fun j => by pointwise [k0_pay7])
    (fun t j => ?_) t ht j
  rw [outs, left]
  refine (Pay.pay18 (blk0 h t) (blk1 h t) (blk2 h t) (blk4 h t) (blk3 h t) (blk5 h t) (blk6 h t) _ j).trans ?_
  rw [before]
  split_ifs <;> rfl

theorem acc13 (t : Fin cfg0.N) (ht : t.val % 32 = 31) (j : Fin 2048) :
    (outsAt0 m c t.val t.isLt).2.2.2.2.2.2 (ix2 0 j)
      = ((∑ i, dz (z (yc i) (x i) g w) (tg i) lg lb j * y (yc i) w j : ℝ) : EReal) := by
  refine total (fun n h j => (outsAt0 m c n h).2.2.2.2.2.2 (ix2 0 j)) (fun j => k0_pay8 (F := Ideal) (ix2 0 j))
    (fun i j => dz (z (yc i) (x i) g w) (tg i) lg lb j * y (yc i) w j) (fun j => by pointwise [k0_pay8])
    (fun t j => ?_) t ht j
  rw [outs, left]
  refine (Pay.pay2 (blk0 h t) (blk1 h t) (blk2 h t) (blk4 h t) (blk3 h t) (blk5 h t) (blk6 h t) _ j).trans ?_
  rw [before]
  split_ifs <;> rfl

end

end Cert.HeadIdeal.Out

end
-- ==== Proof.HeadFinal.lean ====
/- What the head's call leaves in its seven results, over the reals: the results of the tokens' rows, and sums of them over
   all tokens. -/
module

public import proofs.«01_k».proof.Proof.HeadAcc

@[expose] public section

set_option maxRecDepth 16384

noncomputable section

namespace Cert.HeadIdeal.Out

open Cert.HeadIdeal Cert.HeadIdeal.Gen Cert.Rows Cert.HeadSpec Idealize.ShloMosaic Idealize.ShloMosaic.TcCoe Idealize.SL.Sem
open Idealize.ShloMosaic.Pipeline (Dat)

variable (m : (ℓ : Loc nD τ sig) → Buf (Elt Ideal) ℓ)

section
variable {m} {c : Dev nD} {yc : Fin 8192 → Fin 2048 → ℝ} {w : Fin 2048 → Fin 2048 → ℝ} {x tg : Fin 8192 → Fin 2048 → ℝ}
  {g lg lb : Fin 2048 → ℝ}
variable (h : Reals m c yc w x tg g lg lb)
include h

/-- The gradient of the rows before their normalisation, token by token. -/
theorem final7 : (dats m 0 c).arrAt 7 (cfgs 0).N
    = fun i : S8192x2048.Idx => (dz (z (yc (i 0)) (x (i 0)) g w) (tg (i 0)) lg lb (i 1) : EReal) := by
  refine (dats m 0 c).arrAt_eq_of_covers 7 _ (by decide +kernel) fun t hf y => ?_
  blk_simp
  rw [after0_7, outs, left]
  idx_vars y
  refine (Pay.pay1 (blk0 h t) (blk1 h t) (blk2 h t) (blk4 h t) (blk3 h t) (blk5 h t) (blk6 h t) y0 y1).trans ?_
  have e : ((View.whole main_v0_0).slice (win0_7.rect t)).emb (ix2 y0 y1) = ix2 (tok t y0) y1 := by blk_ext [idx t, tok]
  rw [e]
  rfl

/-- The gradient of the output product. -/
theorem final8 : (dats m 0 c).arrAt 8 (cfgs 0).N
    = fun i : S8192x2048.Idx => (dy (z (yc (i 0)) (x (i 0)) g w) (tg (i 0)) g lg lb (i 1) : EReal) := by
  refine (dats m 0 c).arrAt_eq_of_covers 8 _ (by decide +kernel) fun t hf y => ?_
  blk_simp
  rw [after0_8, outs, left]
  idx_vars y
  refine (Pay.pay3 (blk0 h t) (blk1 h t) (blk2 h t) (blk4 h t) (blk3 h t) (blk5 h t) (blk6 h t) y0 y1).trans ?_
  have e : ((View.whole main_v0_1).slice (win0_8.rect t)).emb (ix2 y0 y1) = ix2 (tok t y0) y1 := by blk_ext [idx t, tok]
  rw [e]
  rfl

/-- The gradient of the rows that the output product reads. -/
theorem final9 : (dats m 0 c).arrAt 9 (cfgs 0).N
    = fun i : S8192x2048.Idx => (dyc (z (yc (i 0)) (x (i 0)) g w) (tg (i 0)) g lg lb w (i 1) : EReal) := by
  refine (dats m 0 c).arrAt_eq_of_covers 9 _ (by decide +kernel) fun t hf y => ?_
  blk_simp
  rw [after0_9, outs, left]
  idx_vars y
  refine (Pay.pay4 (blk0 h t) (blk1 h t) (blk2 h t) (blk4 h t) (blk3 h t) (blk5 h t) (blk6 h t) y0 y1).trans ?_
  have e : ((View.whole main_v0_2).slice (win0_9.rect t)).emb (ix2 y0 y1) = ix2 (tok t y0) y1 := by blk_ext [idx t, tok]
  rw [e]
  rfl

/-- The loss, in every entry. -/
theorem final10 : (dats m 0 c).arrAt 10 (cfgs 0).N
    = fun i : S8x128.Idx => ((∑ k, loss (z (yc k) (x k) g w) (tg k) lg lb : ℝ) : EReal) := by
  refine (dats m 0 c).arrAt_eq_of_covers 10 _ (by decide +kernel) fun t hf y => ?_
  have ht := (flush0_10 t).mp hf
  blk_simp
  rw [after0_10]
  idx_vars y
  exact acc10 h t ht y0 y1

/-- The scale's gradient: the sum over the tokens. -/
theorem final11 : (dats m 0 c).arrAt 11 (cfgs 0).N
    = fun i : S1x2048.Idx => ((∑ k, dout (z (yc k) (x k) g w) (tg k) lg lb (i 1) * hat (z (yc k) (x k) g w) (i 1) : ℝ) : EReal) := by
  refine (dats m 0 c).arrAt_eq_of_covers 11 _ (by decide +kernel) fun t hf y => ?_
  have ht := (flush0_11 t).mp hf
  blk_simp
  rw [after0_11]
  idx_vars y
  obtain rfl : y0 = 0 := Subsingleton.elim _ _
  refine (acc11 h t ht y1).trans ?_
  have e : ((View.whole main_v0_4).slice (win0_11.rect t)).emb (ix2 (0 : Fin 1) y1) = ix2 (0 : Fin 1) y1 := by blk_ext [idx t]
  rw [e]
  rfl

/-- The shift's gradient. -/
theorem final12 : (dats m 0 c).arrAt 12 (cfgs 0).N
    = fun i : S1x2048.Idx => ((∑ k, dout (z (yc k) (x k) g w) (tg k) lg lb (i 1) : ℝ) : EReal) := by
  refine (dats m 0 c).arrAt_eq_of_covers 12 _ (by decide +kernel) fun t hf y => ?_
  have ht := (flush0_12 t).mp hf
  blk_simp
  rw [after0_12]
  idx_vars y
  obtain rfl : y0 = 0 := Subsingleton.elim _ _
  refine (acc12 h t ht y1).trans ?_
  have e : ((View.whole main_v0_5).slice (win0_12.rect t)).emb (ix2 (0 : Fin 1) y1) = ix2 (0 : Fin 1) y1 := by blk_ext [idx t]
  rw [e]
  rfl

/-- The gate's gradient. -/
theorem final13 : (dats m 0 c).arrAt 13 (cfgs 0).N
    = fun i : S1x2048.Idx => ((∑ k, dz (z (yc k) (x k) g w) (tg k) lg lb (i 1) * HeadSpec.y (yc k) w (i 1) : ℝ) : EReal) := by
  refine (dats m 0 c).arrAt_eq_of_covers 13 _ (by decide +kernel) fun t hf y => ?_
  have ht := (flush0_13 t).mp hf
  blk_simp
  rw [after0_13]
  idx_vars y
  obtain rfl : y0 = 0 := Subsingleton.elim _ _
  refine (acc13 h t ht y1).trans ?_
  have e : ((View.whole main_v0_6).slice (win0_13.rect t)).emb (ix2 (0 : Fin 1) y1) = ix2 (0 : Fin 1) y1 := by blk_ext [idx t]
  rw [e]
  rfl

end

end Cert.HeadIdeal.Out

end
-- ==== Proof.HeadRef.lean ====
/- What the reference of the head's call computes, over the reals, one token's row at a time. -/
module

public import proofs.«01_k».proof.Proof.Gen.HeadRefIdeal.Read
public import proofs.«01_k».proof.Proof.HeadSpec

@[expose] public section

set_option maxRecDepth 16384

noncomputable section

namespace Cert.HeadRefIdeal.Row

open Cert.HeadRefIdeal Cert.HeadRefIdeal.Gen Cert.HeadRefIdeal.Read Cert.Rows Cert.HeadSpec Idealize.ShloMosaic Idealize.ShloMosaic.TcCoe Idealize.SL.Sem

variable {C : FVec Ideal S8192x2048 .bf16} {yc : Fin 8192 → Fin 2048 → ℝ} (hC : ∀ r j, C (ix2 r j) = (yc r j : EReal))
variable {W : FVec Ideal S2048x2048 .bf16} {w : Fin 2048 → Fin 2048 → ℝ} (hW : ∀ k j, W (ix2 k j) = (w k j : EReal))
variable {X : FVec Ideal S8192x2048 .f32} {x : Fin 8192 → Fin 2048 → ℝ} (hX : ∀ r j, X (ix2 r j) = (x r j : EReal))
variable {T : FVec Ideal S8192x2048 .f32} {t : Fin 8192 → Fin 2048 → ℝ} (hT : ∀ r j, T (ix2 r j) = (t r j : EReal))
variable {G : FVec Ideal S1x6144 .f32} {g : Fin 2048 → ℝ} (hG : ∀ j, G (ix2 0 (third j)) = (g j : EReal))
variable {A : FVec Ideal S1x2048 .f32} {lg : Fin 2048 → ℝ} (hA : ∀ j, A (ix2 0 j) = (lg j : EReal))
variable {B : FVec Ideal S1x2048 .f32} {lb : Fin 2048 → ℝ} (hB : ∀ j, B (ix2 0 j) = (lb j : EReal))

include hC hW in
theorem v2 (i : Fin 8192) (j : Fin 2048) : val_main_v2 (F := Ideal) C W (ix2 i j) = (y (yc i) w j : EReal) := by
  pointwise [val_main_v2, val_main_v1, val_main_v0]
  simp only [hC, hW, ← EReal.coe_mul, sum_coe]
  rfl

include hG in
theorem v5 (j : Fin 2048) : val_main_v5 (F := Ideal) G (ix2 0 j) = (g j : EReal) := by
  pointwise [val_main_v5]
  exact hG j

include hC hW hX hG in
theorem v8 (i : Fin 8192) (j : Fin 2048) :
    val_main_v8 (F := Ideal) C W X G (ix2 i j) = (z (yc i) (x i) g w j : EReal) := by
  pointwise [val_main_v8, val_main_v7, val_main_v6, val_main_v4, val_main_v3, val_main_cst]
  simp only [v2 hC hW, v5 hG, hX, word_alpha, ← EReal.coe_mul, ← EReal.coe_add]
  rfl

include hC hW hX hG in
theorem v14 (i : Fin 8192) (j : Fin 2048) :
    val_main_v14 (F := Ideal) C W X G (ix2 i j) = (cen (z (yc i) (x i) g w) j : EReal) := by
  pointwise [val_main_v14, val_main_v13, val_main_v12, val_main_v11, val_main_v10, val_main_v9, val_main_cst_0, val_main_cst_1]
  simp only [v8 hC hW hX hG, sum_coe, word_2048, mean_coe, ← EReal.coe_sub]
  rfl

include hC hW hX hG in
theorem v23 (i : Fin 8192) (j : Fin 2048) :
    val_main_v23 (F := Ideal) C W X G (ix2 i j) = (cen (z (yc i) (x i) g w) j : EReal) := by
  pointwise [val_main_v23, val_main_v22, val_main_v12, val_main_v11, val_main_v10, val_main_v9, val_main_cst_0, val_main_cst_1]
  simp only [v8 hC hW hX hG, sum_coe, word_2048, mean_coe, ← EReal.coe_sub]
  rfl

include hC hW hX hG in
theorem v17 (i : Fin 8192) (j : Fin 2048) :
    val_main_v17 (F := Ideal) C W X G (ix2 i j) = ((2 * cen (z (yc i) (x i) g w) j : ℝ) : EReal) := by
  pointwise [val_main_v17, val_main_v16, val_main_cst_2]
  simp only [v14 hC hW hX hG, word_two, ← EReal.coe_mul]

include hC hW hX hG in
theorem v25 (i : Fin 8192) :
    val_main_v25 (F := Ideal) C W X G (ix2 i 0) = ((var (z (yc i) (x i) g w) + eps : ℝ) : EReal) := by
  pointwise [val_main_v25, val_main_v24, val_main_cst_5, val_main_v21, val_main_v20, val_main_cst_4, val_main_v19,
    val_main_v18, val_main_cst_3, val_main_v15]
  simp only [v14 hC hW hX hG, sum_coe, word_2048, word_eps, mean_coe, ← EReal.coe_mul, ← EReal.coe_add]
  rfl

include hC hW hX hG in
theorem v26 (i : Fin 8192) : val_main_v26 (F := Ideal) C W X G (ix2 i 0) = (rstd (z (yc i) (x i) g w) : EReal) := by
  pointwise [val_main_v26]
  rw [v25 hC hW hX hG, rsqrt_var]

include hC hW hX hG in
theorem v29 (i : Fin 8192) : val_main_v29 (F := Ideal) C W X G (ix2 i 0)
    = ((-(1 / 2) * (rstd (z (yc i) (x i) g w) / (var (z (yc i) (x i) g w) + eps)) : ℝ) : EReal) := by
  pointwise [val_main_v29, val_main_v28, val_main_v27, val_main_cst_6]
  rw [v26 hC hW hX hG, v25 hC hW hX hG, div_coe_coe _ (var_pos _).ne', word_neg_half, ← EReal.coe_mul]

include hC hW hX hG in
theorem v31 (i : Fin 8192) (j : Fin 2048) :
    val_main_v31 (F := Ideal) C W X G (ix2 i j) = (hat (z (yc i) (x i) g w) j : EReal) := by
  pointwise [val_main_v31, val_main_v30]
  rw [v23 hC hW hX hG, v26 hC hW hX hG, ← EReal.coe_mul]
  rfl

include hC hW hX hT hG hA hB in
theorem v36 (i : Fin 8192) (j : Fin 2048) : val_main_v36 (F := Ideal) C W X T G A B (ix2 i j)
    = (err (z (yc i) (x i) g w) (t i) lg lb j : EReal) := by
  pointwise [val_main_v36, val_main_v35, val_main_v34, val_main_v33, val_main_v32]
  simp only [v31 hC hW hX hG, hA, hB, hT, ← EReal.coe_mul, ← EReal.coe_add, ← EReal.coe_sub]
  rfl

include hC hW hX hT hG hA hB in
/-- The loss. -/
theorem v90 (a : Fin 8) (b : Fin 128) : val_main_v90 (F := Ideal) C W X T G A B (ix2 a b)
    = ((∑ i, loss (z (yc i) (x i) g w) (t i) lg lb : ℝ) : EReal) := by
  pointwise [val_main_v90, val_main_v44, val_main_v43, val_main_v42, val_main_v41, val_main_v40, val_main_v37, val_main_cst_8,
    val_main_cst_9, val_main_cst_10, val_main_cst_11]
  simp only [v36 hC hW hX hT hG hA hB, word_half, word_2048, ← EReal.coe_mul, sum_coe, div_nat]
  simp only [loss, ← Finset.sum_div, ← Finset.mul_sum]
  exact congrArg _ (mul_div_assoc _ _ _).symm

include hC hW hX hT hG hA hB in
theorem v50 (i : Fin 8192) (j : Fin 2048) : val_main_v50 (F := Ideal) C W X T G A B (ix2 i j)
    = (dout (z (yc i) (x i) g w) (t i) lg lb j : EReal) := by
  pointwise [val_main_v50, val_main_v49, val_main_v48, val_main_v47, val_main_v46, val_main_v45, val_main_v39, val_main_v38,
    val_main_cst_7, val_main_cst_12, val_main_cst_13, val_main_cst_14]
  simp only [v36 hC hW hX hT hG hA hB, word_half, word_two, word_2048, mul_one, ← EReal.coe_mul, div_nat]
  refine congrArg _ ?_
  rw [dout]
  ring

include hC hW hX hT hG hA hB in
/-- The shift's gradient. -/
theorem v52 (j : Fin 2048) : val_main_v52 (F := Ideal) C W X T G A B (ix2 0 j)
    = ((∑ i, dout (z (yc i) (x i) g w) (t i) lg lb j : ℝ) : EReal) := by
  pointwise [val_main_v52, val_main_v51, val_main_cst_15]
  simp only [v50 hC hW hX hT hG hA hB, sum_coe]

include hC hW hX hT hG hA hB in
/-- The scale's gradient. -/
theorem v55 (j : Fin 2048) : val_main_v55 (F := Ideal) C W X T G A B (ix2 0 j)
    = ((∑ i, dout (z (yc i) (x i) g w) (t i) lg lb j * hat (z (yc i) (x i) g w) j : ℝ) : EReal) := by
  pointwise [val_main_v55, val_main_v54, val_main_v53, val_main_cst_16]
  simp only [v50 hC hW hX hT hG hA hB, v31 hC hW hX hG, ← EReal.coe_mul, sum_coe]
  exact congrArg _ (Finset.sum_congr rfl fun i _ => mul_comm _ _)

include hC hW hX hT hG hA hB in
theorem v57 (i : Fin 8192) (j : Fin 2048) : val_main_v57 (F := Ideal) C W X T G A B (ix2 i j)
    = ((dout (z (yc i) (x i) g w) (t i) lg lb j * lg j : ℝ) : EReal) := by
  pointwise [val_main_v57, val_main_v56]
  rw [v50 hC hW hX hT hG hA hB, hA, ← EReal.coe_mul]

include hC hW hX hT hG hA hB in
theorem v62 (i : Fin 8192) (j : Fin 2048) : val_main_v62 (F := Ideal) C W X T G A B (ix2 i j)
    = ((dout (z (yc i) (x i) g w) (t i) lg lb j * lg j * rstd (z (yc i) (x i) g w) : ℝ) : EReal) := by
  pointwise [val_main_v62, val_main_v61]
  rw [v57 hC hW hX hT hG hA hB, v26 hC hW hX hG, ← EReal.coe_mul]

include hC hW hX hT hG hA hB in
theorem v71 (i : Fin 8192) (j : Fin 2048) : val_main_v71 (F := Ideal) C W X T G A B (ix2 i j)
    = (((∑ k, cen (z (yc i) (x i) g w) k * (dout (z (yc i) (x i) g w) (t i) lg lb k * lg k))
        * (-(1 / 2) * (rstd (z (yc i) (x i) g w) / (var (z (yc i) (x i) g w) + eps))) / ((2048 : ℕ) : ℝ)
        * (2 * cen (z (yc i) (x i) g w) j) : ℝ) : EReal) := by
  pointwise [val_main_v71, val_main_v70, val_main_v69, val_main_v68, val_main_v67, val_main_v63, val_main_v60, val_main_v59,
    val_main_v58, val_main_cst_17, val_main_cst_19, val_main_cst_20]
  simp only [Fin.sum_univ_one, v23 hC hW hX hG, v57 hC hW hX hT hG hA hB, v29 hC hW hX hG, v17 hC hW hX hG, word_2048,
    ← EReal.coe_mul, sum_coe, div_nat]

include hC hW hX hT hG hA hB in
/-- The gradient of the row before its normalisation. -/
theorem v81 (i : Fin 8192) (j : Fin 2048) : val_main_v81 (F := Ideal) C W X T G A B (ix2 i j)
    = (dz (z (yc i) (x i) g w) (t i) lg lb j : EReal) := by
  pointwise [val_main_v81, val_main_v80, val_main_v79, val_main_v78, val_main_v77, val_main_v76, val_main_v75, val_main_v74,
    val_main_v73, val_main_v72, val_main_v66, val_main_v65, val_main_v64, val_main_cst_18, val_main_cst_21, val_main_cst_22,
    val_main_cst_23]
  simp only [Fin.sum_univ_one, v62 hC hW hX hT hG hA hB, v71 hC hW hX hT hG hA hB, word_2048, ← EReal.coe_neg, sum_coe,
    ← EReal.coe_add, div_nat]
  exact congrArg _ (back_vjp (z (yc i) (x i) g w) (fun j => dout (z (yc i) (x i) g w) (t i) lg lb j * lg j) j)

include hC hW hX hT hG hA hB in
/-- The gate's gradient. -/
theorem v86 (j : Fin 2048) : val_main_v86 (F := Ideal) C W X T G A B (ix2 0 j)
    = ((∑ i, dz (z (yc i) (x i) g w) (t i) lg lb j * y (yc i) w j : ℝ) : EReal) := by
  pointwise [val_main_v86, val_main_v85, val_main_v84, val_main_cst_24]
  simp only [v81 hC hW hX hT hG hA hB, v2 hC hW, ← EReal.coe_mul, sum_coe]

include hC hW hX hT hG hA hB in
theorem v83 (i : Fin 8192) (j : Fin 2048) : val_main_v83 (F := Ideal) C W X T G A B (ix2 i j)
    = (dy (z (yc i) (x i) g w) (t i) g lg lb j : EReal) := by
  pointwise [val_main_v83, val_main_v82]
  rw [v81 hC hW hX hT hG hA hB, v5 hG, ← EReal.coe_mul, dy, mul_comm]

include hC hW hX hT hG hA hB in
/-- The gradient of the output product. -/
theorem v87 (i : Fin 8192) (j : Fin 2048) : val_main_v87 (F := Ideal) C W X T G A B (ix2 i j)
    = (dy (z (yc i) (x i) g w) (t i) g lg lb j : EReal) := by
  pointwise [val_main_v87]
  exact v83 hC hW hX hT hG hA hB i j

include hC hW hX hT hG hA hB in
/-- The gradient of the rows that the output product reads. -/
theorem v89 (i : Fin 8192) (k : Fin 2048) : val_main_v89 (F := Ideal) C W X T G A B (ix2 i k)
    = (dyc (z (yc i) (x i) g w) (t i) g lg lb w k : EReal) := by
  pointwise [val_main_v89, val_main_v88, val_main_v1]
  simp only [v83 hC hW hX hT hG hA hB, hW, ← EReal.coe_mul, sum_coe]
  rfl

end Cert.HeadRefIdeal.Row

end
-- ==== Proof.HeadRefRun.lean ====
/- The reference of the head's call ends with its results and leaves its arguments. -/
module

public import proofs.«01_k».proof.Proof.Gen.HeadRefIdeal.Read

@[expose] public section

set_option maxRecDepth 16384

noncomputable section

namespace Cert.HeadRefIdeal.Row

open Cert.HeadRefIdeal Cert.HeadRefIdeal.Gen Cert.HeadRefIdeal.Read Idealize.ShloMosaic Idealize.ShloMosaic.TcCoe Idealize.SL.Sem

theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v90) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v86) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Cert.HeadRefIdeal.Value.run (F := Ideal) m g

end Cert.HeadRefIdeal.Row

end
-- ==== Proof.HeadGrad.lean ====
/- The head's call and its reference end with equal results when every argument is finite. -/
module

public import proofs.«01_k».proof.Defs
public import proofs.«01_k».proof.Proof.HeadFinal
public import proofs.«01_k».proof.Proof.HeadRef
public import proofs.«01_k».proof.Proof.Finite
public import proofs.«01_k».proof.Proof.HeadRefRun

@[expose] public section

set_option maxRecDepth 16384

noncomputable section

namespace Cert.HeadIdeal.Out

open Cert.HeadIdeal Cert.HeadIdeal.Gen Cert.Rows Idealize.ShloMosaic Idealize.ShloMosaic.TcCoe Idealize.SL.Sem

/-- The call ends with its results' arrays. -/
theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (dats m 0 c).arrAt 7 (cfgs 0).N
      ∧ r.2.mem ((c.tc : Thread nD τ).loc main_v0_1) = (dats m 0 c).arrAt 8 (cfgs 0).N
      ∧ r.2.mem ((c.tc : Thread nD τ).loc main_v0_2) = (dats m 0 c).arrAt 9 (cfgs 0).N
      ∧ r.2.mem ((c.tc : Thread nD τ).loc main_v0_3) = (dats m 0 c).arrAt 10 (cfgs 0).N
      ∧ r.2.mem ((c.tc : Thread nD τ).loc main_v0_4) = (dats m 0 c).arrAt 11 (cfgs 0).N
      ∧ r.2.mem ((c.tc : Thread nD τ).loc main_v0_5) = (dats m 0 c).arrAt 12 (cfgs 0).N
      ∧ r.2.mem ((c.tc : Thread nD τ).loc main_v0_6) = (dats m 0 c).arrAt 13 (cfgs 0).N) := by
  exact θ_run_mono (run_main m g) fun r hr c =>
    ⟨(hr c).1 7, (hr c).1 8, (hr c).1 9, (hr c).1 10, (hr c).1 11, (hr c).1 12, (hr c).1 13⟩

variable [hPre : Cert.Pre_finite_head.Facts]

set_option maxHeartbeats 2000000 in
open Cert.HeadRefIdeal.Read in
/-- At finite arguments the reference's results are the call's. -/
theorem same (m : (ℓ : Loc nD τ sig) → Buf (Elt Ideal) ℓ) (hpre : Cert.Pre_HeadIdeal_finite_head m) (c : Dev nD) :
    val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 7 (cfgs 0).N ∧
    val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 8 (cfgs 0).N ∧
    val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 9 (cfgs 0).N ∧
    val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 10 (cfgs 0).N ∧
    val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 11 (cfgs 0).N ∧
    val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 12 (cfgs 0).N ∧
    val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 13 (cfgs 0).N := by
  obtain ⟨rC, rW, rX, rT, rG, rA, rB⟩ := Cert.Finite.head (hpre c)
  have hC := fun (i : Fin 8192) (j : Fin 2048) => rC (ix2 i j)
  have hW := fun (k j : Fin 2048) => rW (ix2 k j)
  have hX := fun (i : Fin 8192) (j : Fin 2048) => rX (ix2 i j)
  have hT := fun (i : Fin 8192) (j : Fin 2048) => rT (ix2 i j)
  have hG := fun j : Fin 2048 => rG (ix2 0 (HeadSpec.third j))
  have hA := fun j : Fin 2048 => rA (ix2 0 j)
  have hB := fun j : Fin 2048 => rB (ix2 0 j)
  have hR : Reals m c _ _ _ _ _ _ _ := ⟨hC, hW, hX, hT, hG, hA, hB⟩
  refine ⟨?_, ?_, ?_, ?_, ?_, ?_, ?_⟩
  · rw [final7 hR]
    funext y
    idx_vars y
    exact Cert.HeadRefIdeal.Row.v81 hC hW hX hT hG hA hB y0 y1
  · rw [final8 hR]
    funext y
    idx_vars y
    exact Cert.HeadRefIdeal.Row.v87 hC hW hX hT hG hA hB y0 y1
  · rw [final9 hR]
    funext y
    idx_vars y
    exact Cert.HeadRefIdeal.Row.v89 hC hW hX hT hG hA hB y0 y1
  · rw [final10 hR]
    funext y
    idx_vars y
    exact Cert.HeadRefIdeal.Row.v90 hC hW hX hT hG hA hB y0 y1
  · rw [final11 hR]
    funext y
    idx_vars y
    obtain rfl : y0 = 0 := Subsingleton.elim _ _
    exact Cert.HeadRefIdeal.Row.v55 hC hW hX hT hG hA hB y1
  · rw [final12 hR]
    funext y
    idx_vars y
    obtain rfl : y0 = 0 := Subsingleton.elim _ _
    exact Cert.HeadRefIdeal.Row.v52 hC hW hX hT hG hA hB y1
  · rw [final13 hR]
    funext y
    idx_vars y
    obtain rfl : y0 = 0 := Subsingleton.elim _ _
    exact Cert.HeadRefIdeal.Row.v86 hC hW hX hT hG hA hB y1

set_option maxHeartbeats 2000000 in
open Cert.HeadRefIdeal.Read in
/-- The same of arrays that equal the call's arguments. -/
theorem same_of (m : (ℓ : Loc nD τ sig) → Buf (Elt Ideal) ℓ) (hpre : Cert.Pre_HeadIdeal_finite_head m) (c : Dev nD)
    (x0 : FVec Ideal S8192x2048 .bf16) (x1 : FVec Ideal S2048x2048 .bf16) (x2 : FVec Ideal S8192x2048 .f32) (x3 : FVec Ideal S8192x2048 .f32) (x4 : FVec Ideal S1x6144 .f32) (x5 : FVec Ideal S1x2048 .f32) (x6 : FVec Ideal S1x2048 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) :
    val_main_v81 (F := Ideal) x0 x1 x2 x3 x4 x5 x6 = (dats m 0 c).arrAt 7 (cfgs 0).N ∧
    val_main_v87 (F := Ideal) x0 x1 x2 x3 x4 x5 x6 = (dats m 0 c).arrAt 8 (cfgs 0).N ∧
    val_main_v89 (F := Ideal) x0 x1 x2 x3 x4 x5 x6 = (dats m 0 c).arrAt 9 (cfgs 0).N ∧
    val_main_v90 (F := Ideal) x0 x1 x2 x3 x4 x5 x6 = (dats m 0 c).arrAt 10 (cfgs 0).N ∧
    val_main_v55 (F := Ideal) x0 x1 x2 x3 x4 x5 x6 = (dats m 0 c).arrAt 11 (cfgs 0).N ∧
    val_main_v52 (F := Ideal) x0 x1 x2 x3 x4 x5 x6 = (dats m 0 c).arrAt 12 (cfgs 0).N ∧
    val_main_v86 (F := Ideal) x0 x1 x2 x3 x4 x5 x6 = (dats m 0 c).arrAt 13 (cfgs 0).N := by
  subst e0 e1 e2 e3 e4 e5 e6
  exact same m hpre c

/-- The call ends with its results' arrays and leaves its arguments. -/
theorem whole (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (dats m 0 c).arrAt 7 (cfgs 0).N
      ∧ r.2.mem ((c.tc : Thread nD τ).loc main_v0_1) = (dats m 0 c).arrAt 8 (cfgs 0).N
      ∧ r.2.mem ((c.tc : Thread nD τ).loc main_v0_2) = (dats m 0 c).arrAt 9 (cfgs 0).N
      ∧ r.2.mem ((c.tc : Thread nD τ).loc main_v0_3) = (dats m 0 c).arrAt 10 (cfgs 0).N
      ∧ r.2.mem ((c.tc : Thread nD τ).loc main_v0_4) = (dats m 0 c).arrAt 11 (cfgs 0).N
      ∧ r.2.mem ((c.tc : Thread nD τ).loc main_v0_5) = (dats m 0 c).arrAt 12 (cfgs 0).N
      ∧ r.2.mem ((c.tc : Thread nD τ).loc main_v0_6) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (θ_run_and (ends m g) (unchanged m g)) fun r hr c => ?_
  obtain ⟨h0, h1, h2, h3, h4, h5, h6⟩ := hr.1 c
  exact ⟨h0, h1, h2, h3, h4, h5, h6, hr.2 c⟩

end Cert.HeadIdeal.Out

end
-- ==== Proof.HeadAlg.lean ====
/- The claim of the head's call. -/
module

public import proofs.«01_k».proof.Proof.HeadGrad

@[expose] public section

set_option maxRecDepth 16384

noncomputable section

namespace Cert.HeadIdeal.Out

open Cert.HeadIdeal Cert.HeadIdeal.Gen Cert.Rows Idealize.ShloMosaic Idealize.ShloMosaic.TcCoe Idealize.SL.Sem

/-- The call and the reference end with equal results, whatever finite arguments they start from. -/
theorem algebraic [hPre : Cert.Pre_finite_head.Facts] : Cert.algebraic_HeadIdeal_HeadRefIdeal_pre_finite_head := by
  intro m g m' g' hpre hagree
  refine ⟨_, _, _, _, _, _, _, whole m g, θ_run_mono (Cert.HeadRefIdeal.Row.ends m' g') fun r hr c => ?_⟩
  obtain ⟨h0, h1, h2, h3, h4, h5, h6, h⟩ := hr c
  obtain ⟨a0, a1, a2, a3, a4, a5, a6⟩ := hagree c
  obtain ⟨s0, s1, s2, s3, s4, s5, s6⟩ := same_of m hpre c _ _ _ _ _ _ _ a0 a1 a2 a3 a4 a5 a6
  exact ⟨h0.trans s0, h1.trans s1, h2.trans s2, h3.trans s3, h4.trans s4, h5.trans s5, h6.trans s6, h⟩

end Cert.HeadIdeal.Out

end
-- ==== Proof.InpRef.lean ====
/- What the reference of the input projection computes, entry by entry: the modulated row of a token, and its product with
   one column of the projection's matrix. -/
module

public import proofs.«01_k».proof.Proof.Gen.InpRefIdeal.Read
public import Idealize.ShloMosaic.Lib.Pointwise
public import Idealize.ShloMosaic.Lib.Pipeline.ValueKit

@[expose] public section

set_option maxRecDepth 16384

noncomputable section

namespace Cert.InpRow

open Idealize.ShloMosaic Cert.InpRefIdeal Cert.InpRefIdeal.Gen Cert.InpRefIdeal.Read

/-- The place of the shift of feature `j` in the modulation. -/
def low (j : Fin 2048) : Fin 6144 := ⟨j.val, by omega⟩
/-- The place of the scale of feature `j` in the modulation. -/
def mid (j : Fin 2048) : Fin 6144 := ⟨2048 + j.val, by omega⟩
/-- Column `j` of a piece of the projection that starts at column `o`. -/
def col (o n : Nat) (h : o + n ≤ 5632) (j : Fin n) : Fin 5632 := ⟨o + j.val, by omega⟩

/-- Feature `k` of token `i`, modulated. -/
def row (X : FVec Ideal S8192x2048 .f32) (M : FVec Ideal S1x6144 .f32) (i : Fin 8192) (k : Fin 2048) : EReal :=
  X (ix2 i k) * (1 + M (ix2 0 (mid k))) + M (ix2 0 (low k))

/-- Entry `j` of token `i` of the projection. -/
def proj (X : FVec Ideal S8192x2048 .f32) (M : FVec Ideal S1x6144 .f32) (W : FVec Ideal S2048x5632 .f32) (i : Fin 8192)
    (j : Fin 5632) : EReal :=
  ∑ k : Fin 2048, row X M i k * W (ix2 k j)

variable (X : FVec Ideal S8192x2048 .f32) (M : FVec Ideal S1x6144 .f32) (W : FVec Ideal S2048x5632 .f32)

theorem v8 (i : Fin 8192) (j : Fin 2048) : val_main_v8 (F := Ideal) X M (ix2 i j) = row X M i j := by
  pointwise [val_main_v8, val_main_v7, val_main_v6, val_main_v5, val_main_v4, val_main_v3, val_main_v1, val_main_v0, val_main_cst]
  rfl

theorem v9 (i : Fin 8192) (j : Fin 5632) : val_main_v9 (F := Ideal) X M W (ix2 i j) = proj X M W i j := by
  pointwise [val_main_v9]
  simp only [v8]
  rfl

theorem v14 (i : Fin 8192) (j : Fin 2048) : val_main_v14 (F := Ideal) X M (ix2 i j) = row X M i j := by
  pointwise [val_main_v14]
  exact v8 X M i j

theorem v15 (i : Fin 8192) (j : Fin 1536) :
    val_main_v15 (F := Ideal) X M W (ix2 i j) = proj X M W i (col 0 1536 (by decide) j) := by
  pointwise [val_main_v15, val_main_v10]
  rw [← v9]
  exact congrArg (val_main_v9 (F := Ideal) X M W) (by ext a; fin_cases a <;> simp [col])

theorem v11 (i : Fin 8192) (j : Fin 1024) :
    val_main_v11 (F := Ideal) X M W (ix2 i j) = proj X M W i (col 1536 1024 (by decide) j) := by
  pointwise [val_main_v11]
  exact v9 X M W _ _

theorem v12 (i : Fin 8192) (j : Fin 2048) :
    val_main_v12 (F := Ideal) X M W (ix2 i j) = proj X M W i (col 2560 2048 (by decide) j) := by
  pointwise [val_main_v12]
  exact v9 X M W _ _

theorem v13 (i : Fin 8192) (j : Fin 1024) :
    val_main_v13 (F := Ideal) X M W (ix2 i j) = proj X M W i (col 4608 1024 (by decide) j) := by
  pointwise [val_main_v13]
  exact v9 X M W _ _

end Cert.InpRow

end
-- ==== Proof.InpOut.lean ====
/- What the input projection's call writes, block by block, is the reference's. -/
module

public import proofs.«01_k».proof.Defs
public import proofs.«01_k».proof.Proof.Gen.InpIdeal.Value
public import proofs.«01_k».proof.Proof.InpRef

@[expose] public section

set_option maxRecDepth 16384

noncomputable section

namespace Cert.InpIdeal.Out

open Cert.InpIdeal Cert.InpIdeal.Gen Cert.InpRow Idealize.ShloMosaic Idealize.ShloMosaic.TcCoe Idealize.SL.Sem
open Idealize.ShloMosaic.Pipeline (Dat)

section
variable (x : FVec Ideal S256x2048 .f32) (s b : FVec Ideal S1x2048 .f32) (r : Fin 256)

theorem pay1 (k : Fin 2048) : k0_pay1 (F := Ideal) x s b (ix2 r k) = x (ix2 r k) * (1 + s (ix2 0 k)) + b (ix2 0 k) := by
  pointwise [k0_pay1]

theorem pay2 (w : FVec Ideal S1536x2048 .bf16) (j : Fin 1536) : k0_pay2 (F := Ideal) x s b w (ix2 r j)
    = ∑ k : Fin 2048, (x (ix2 r k) * (1 + s (ix2 0 k)) + b (ix2 0 k)) * w (ix2 j k) := by
  pointwise [k0_pay2, k0_pay1]

theorem pay3 (w : FVec Ideal S1024x2048 .bf16) (j : Fin 1024) : k0_pay3 (F := Ideal) x s b w (ix2 r j)
    = ∑ k : Fin 2048, (x (ix2 r k) * (1 + s (ix2 0 k)) + b (ix2 0 k)) * w (ix2 j k) := by
  pointwise [k0_pay3, k0_pay1]

theorem pay4 (w : FVec Ideal S2048x2048 .bf16) (j : Fin 2048) : k0_pay4 (F := Ideal) x s b w (ix2 r j)
    = ∑ k : Fin 2048, (x (ix2 r k) * (1 + s (ix2 0 k)) + b (ix2 0 k)) * w (ix2 j k) := by
  pointwise [k0_pay4, k0_pay1]

theorem pay5 (w : FVec Ideal S1024x2048 .bf16) (j : Fin 1024) : k0_pay5 (F := Ideal) x s b w (ix2 r j)
    = ∑ k : Fin 2048, (x (ix2 r k) * (1 + s (ix2 0 k)) + b (ix2 0 k)) * w (ix2 j k) := by
  pointwise [k0_pay5, k0_pay1]

end

variable (m : (ℓ : Loc nD τ sig) → Buf (Elt Ideal) ℓ) (c : Dev nD)

/-- The token that row `r` of point `t`'s block is. -/
def tok (t : Fin cfg0.N) (r : Fin 256) : Fin 8192 :=
  ⟨t.val * 256 + r.val, by have : t.val < 32 := lt_of_lt_of_eq t.isLt N_0; omega⟩

theorem idx : ∀ t : Fin cfg0.N, win0_0.index t = ![t.val, 0] ∧ win0_1.index t = ![0, 0] ∧ win0_2.index t = ![0, 1]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The host's matrix for the call: the argument transposed. -/
def mat (W : FVec Ideal S2048x5632 .f32) : FVec Ideal S5632x2048 .bf16 :=
  truncf .bf16 (transpose S5632x2048 [1, 0] W transposes_S2048x5632_S5632x2048_1_0) bitsLt_bf16_f32

theorem mat_apply (W : FVec Ideal S2048x5632 .f32) (j : Fin 5632) (k : Fin 2048) : mat W (ix2 j k) = W (ix2 k j) := by
  pointwise [mat]

/-- The matrix that the call reads is the argument's transpose. -/
theorem entry (j : Fin 5632) (k : Fin 2048) : (show FVec Ideal S5632x2048 .bf16 from V m c main_v1) (ix2 j k)
    = (show FVec Ideal S2048x5632 .f32 from m ((c : Thread nD τ).loc main_arg2)) (ix2 k j) := by
  entry_read
  exact mat_apply _ j k

theorem blk0 (t : Fin cfg0.N) (r : Fin 256) (k : Fin 2048) : (show FVec Ideal S256x2048 .f32 from iblk m c 0 t) (ix2 r k)
    = (show FVec Ideal S8192x2048 .f32 from m ((c : Thread nD τ).loc main_arg0)) (ix2 (tok t r) k) := by
  rw [← V_main_arg0 m c]
  blk_ext [iblk, idx t, tok]

theorem blk1 (t : Fin cfg0.N) (k : Fin 2048) : (show FVec Ideal S1x2048 .f32 from iblk m c 1 t) (ix2 0 k)
    = (show FVec Ideal S1x6144 .f32 from m ((c : Thread nD τ).loc main_arg1)) (ix2 0 (low k)) := by
  rw [← V_main_arg1 m c]
  blk_ext [iblk, idx t, low]

theorem blk2 (t : Fin cfg0.N) (k : Fin 2048) : (show FVec Ideal S1x2048 .f32 from iblk m c 2 t) (ix2 0 k)
    = (show FVec Ideal S1x6144 .f32 from m ((c : Thread nD τ).loc main_arg1)) (ix2 0 (mid k)) := by
  rw [← V_main_arg1 m c]
  blk_ext [iblk, idx t, mid]

theorem blk3 (t : Fin cfg0.N) (j : Fin 5632) (k : Fin 2048) : (show FVec Ideal S5632x2048 .bf16 from iblk m c 3 t) (ix2 j k)
    = (show FVec Ideal S2048x5632 .f32 from m ((c : Thread nD τ).loc main_arg2)) (ix2 k j) := by
  rw [← entry m c]
  blk_ext [iblk, idx t]

theorem piece0 (B : FVec Ideal S5632x2048 .bf16) (j : Fin 1536) (k : Fin 2048) :
    View.ld (Val := Elt Ideal) (e' := .bf16) B r0_2 (ix2 j k) = B (ix2 (col 0 1536 (by decide) j) k) :=
  congrArg B (funext fun a => Fin.ext (match a with
    | ⟨0, _⟩ => by show 0 + 1 * j.val = 0 + j.val; omega
    | ⟨1, _⟩ => by show 0 + 1 * k.val = k.val; omega))

theorem piece1 (B : FVec Ideal S5632x2048 .bf16) (j : Fin 1024) (k : Fin 2048) :
    View.ld (Val := Elt Ideal) (e' := .bf16) B r0_4 (ix2 j k) = B (ix2 (col 1536 1024 (by decide) j) k) :=
  congrArg B (funext fun a => Fin.ext (match a with
    | ⟨0, _⟩ => by show 1536 + 1 * j.val = 1536 + j.val; omega
    | ⟨1, _⟩ => by show 0 + 1 * k.val = k.val; omega))

theorem piece2 (B : FVec Ideal S5632x2048 .bf16) (j : Fin 2048) (k : Fin 2048) :
    View.ld (Val := Elt Ideal) (e' := .bf16) B r0_6 (ix2 j k) = B (ix2 (col 2560 2048 (by decide) j) k) :=
  congrArg B (funext fun a => Fin.ext (match a with
    | ⟨0, _⟩ => by show 2560 + 1 * j.val = 2560 + j.val; omega
    | ⟨1, _⟩ => by show 0 + 1 * k.val = k.val; omega))

theorem piece3 (B : FVec Ideal S5632x2048 .bf16) (j : Fin 1024) (k : Fin 2048) :
    View.ld (Val := Elt Ideal) (e' := .bf16) B r0_7 (ix2 j k) = B (ix2 (col 4608 1024 (by decide) j) k) :=
  congrArg B (funext fun a => Fin.ext (match a with
    | ⟨0, _⟩ => by show 4608 + 1 * j.val = 4608 + j.val; omega
    | ⟨1, _⟩ => by show 0 + 1 * k.val = k.val; omega))

end Cert.InpIdeal.Out

end
-- ==== Proof.InpFinal.lean ====
/- The arrays that the input projection's call leaves are the reference's results, and the claim. -/
module

public import proofs.«01_k».proof.Proof.InpOut

@[expose] public section

set_option maxRecDepth 16384

noncomputable section

namespace Cert.InpIdeal.Out

open Cert.InpIdeal Cert.InpIdeal.Gen Cert.InpRow Idealize.ShloMosaic Idealize.ShloMosaic.TcCoe Idealize.SL.Sem
open Idealize.ShloMosaic.Pipeline (Dat)
open Cert.InpRefIdeal.Read

variable (m : (ℓ : Loc nD τ sig) → Buf (Elt Ideal) ℓ) (c : Dev nD)

/-- A row of a block, modulated, is the row of its token. -/
theorem row_blk (t : Fin cfg0.N) (r : Fin 256) (k : Fin 2048) :
    (show FVec Ideal S256x2048 .f32 from iblk m c 0 t) (ix2 r k) * (1 + (show FVec Ideal S1x2048 .f32 from iblk m c 2 t) (ix2 0 k))
      + (show FVec Ideal S1x2048 .f32 from iblk m c 1 t) (ix2 0 k)
    = row (m ((c : Thread nD τ).loc main_arg0)) (m ((c : Thread nD τ).loc main_arg1)) (tok t r) k := by
  rw [row, blk0, blk1, blk2]

/-- The rows of the modulated input. -/
theorem final4 : (dats m 0 c).arrAt 4 (cfgs 0).N
    = val_main_v14 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  frame_out
  idx_vars y
  refine (pay1 _ _ _ _ _).trans ?_
  have e : ((View.whole main_v2_0).slice (win0_4.rect t)).emb (ix2 y0 y1) = ix2 (tok t y0) y1 := by blk_ext [idx t, tok]
  rw [e]
  exact (row_blk m c t y0 y1).trans (v14 _ _ _ _).symm

/-- The queries, keys and values. -/
theorem final5 : (dats m 0 c).arrAt 5 (cfgs 0).N = val_main_v15 (F := Ideal) (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  idx_vars y
  refine (pay2 _ _ _ _ _ _).trans ?_
  have e : ((View.whole main_v2_1).slice (win0_5.rect t)).emb (ix2 y0 y1) = ix2 (tok t y0) y1 := by blk_ext [idx t, tok]
  rw [e]
  refine Eq.trans ?_ (v15 _ _ _ _ _).symm
  refine Finset.sum_congr rfl fun k _ => ?_
  refine congrArg₂ (· * ·) (row_blk m c t y0 k) (Eq.trans ?_ (blk3 m c t (col 0 1536 (by decide) y1) k))
  exact piece0 _ y1 k

/-- The attention gate. -/
theorem final6 : (dats m 0 c).arrAt 6 (cfgs 0).N = val_main_v11 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  idx_vars y
  refine (pay3 _ _ _ _ _ _).trans ?_
  have e : ((View.whole main_v2_2).slice (win0_6.rect t)).emb (ix2 y0 y1) = ix2 (tok t y0) y1 := by blk_ext [idx t, tok]
  rw [e]
  refine Eq.trans ?_ (v11 _ _ _ _ _).symm
  refine Finset.sum_congr rfl fun k _ => ?_
  refine congrArg₂ (· * ·) (row_blk m c t y0 k) (Eq.trans ?_ (blk3 m c t (col 1536 1024 (by decide) y1) k))
  exact piece1 _ y1 k

/-- The linear unit and its gate. -/
theorem final7 : (dats m 0 c).arrAt 7 (cfgs 0).N = val_main_v12 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp
  rw [after0_7]
  unfold out0_7
  frame_out
  idx_vars y
  refine (pay4 _ _ _ _ _ _).trans ?_
  have e : ((View.whole main_v2_3).slice (win0_7.rect t)).emb (ix2 y0 y1) = ix2 (tok t y0) y1 := by blk_ext [idx t, tok]
  rw [e]
  refine Eq.trans ?_ (v12 _ _ _ _ _).symm
  refine Finset.sum_congr rfl fun k _ => ?_
  refine congrArg₂ (· * ·) (row_blk m c t y0 k) (Eq.trans ?_ (blk3 m c t (col 2560 2048 (by decide) y1) k))
  exact piece2 _ y1 k

/-- The convolution gate. -/
theorem final8 : (dats m 0 c).arrAt 8 (cfgs 0).N = val_main_v13 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp
  rw [after0_8]
  unfold out0_8
  frame_out
  idx_vars y
  refine (pay5 _ _ _ _ _ _).trans ?_
  have e : ((View.whole main_v2_4).slice (win0_8.rect t)).emb (ix2 y0 y1) = ix2 (tok t y0) y1 := by blk_ext [idx t, tok]
  rw [e]
  refine Eq.trans ?_ (v13 _ _ _ _ _).symm
  refine Finset.sum_congr rfl fun k _ => ?_
  refine congrArg₂ (· * ·) (row_blk m c t y0 k) (Eq.trans ?_ (blk3 m c t (col 4608 1024 (by decide) y1) k))
  exact piece3 _ y1 k

end Cert.InpIdeal.Out

end
-- ==== Proof.InpRefRun.lean ====
/- The reference of the input projection ends with its results and leaves its arguments. -/
module

public import proofs.«01_k».proof.Proof.Gen.InpRefIdeal.Read

@[expose] public section

set_option maxRecDepth 16384

noncomputable section

namespace Cert.InpRefIdeal.Row

open Cert.InpRefIdeal Cert.InpRefIdeal.Gen Cert.InpRefIdeal.Read Idealize.ShloMosaic Idealize.ShloMosaic.TcCoe Idealize.SL.Sem

theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14) = val_main_v14 (F := Ideal) (m ((c.tc : Thread nD τ).loc main_arg0)) (m ((c.tc : Thread nD τ).loc main_arg1))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg2))
      ∧ r.2.mem ((c.tc : Thread nD τ).loc main_v11) = val_main_v11 (F := Ideal) (m ((c.tc : Thread nD τ).loc main_arg0)) (m ((c.tc : Thread nD τ).loc main_arg1)) (m ((c.tc : Thread nD τ).loc main_arg2))
      ∧ r.2.mem ((c.tc : Thread nD τ).loc main_v12) = val_main_v12 (F := Ideal) (m ((c.tc : Thread nD τ).loc main_arg0)) (m ((c.tc : Thread nD τ).loc main_arg1)) (m ((c.tc : Thread nD τ).loc main_arg2))
      ∧ r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.InpRefIdeal.Value.run (F := Ideal) m g

end Cert.InpRefIdeal.Row

end
-- ==== Proof.InpAlg.lean ====
/- The claim of the input projection's call. -/
module

public import proofs.«01_k».proof.Defs
public import proofs.«01_k».proof.Proof.InpFinal
public import proofs.«01_k».proof.Proof.InpRefRun

@[expose] public section

set_option maxRecDepth 16384

noncomputable section

namespace Cert.InpIdeal.Out

open Cert.InpIdeal Cert.InpIdeal.Gen Idealize.ShloMosaic Idealize.ShloMosaic.TcCoe Idealize.SL.Sem

set_option maxHeartbeats 2000000 in
open Cert.InpRefIdeal.Read in
/-- The reference's results, of arrays that equal the call's arguments, are the call's results. -/
theorem same_of (m : (ℓ : Loc nD τ sig) → Buf (Elt Ideal) ℓ) (c : Dev nD)
    (x0 : FVec Ideal S8192x2048 .f32) (x1 : FVec Ideal S1x6144 .f32) (x2 : FVec Ideal S2048x5632 .f32)
    (e0 : x0 = m ((c.tc : Thread nD τ).loc main_arg0)) (e1 : x1 = m ((c.tc : Thread nD τ).loc main_arg1))
    (e2 : x2 = m ((c.tc : Thread nD τ).loc main_arg2)) :
    val_main_v14 (F := Ideal) x0 x1 = (dats m 0 c).arrAt 4 (cfgs 0).N ∧
    val_main_v15 (F := Ideal) x0 x1 x2 = (dats m 0 c).arrAt 5 (cfgs 0).N ∧
    val_main_v11 (F := Ideal) x0 x1 x2 = (dats m 0 c).arrAt 6 (cfgs 0).N ∧
    val_main_v12 (F := Ideal) x0 x1 x2 = (dats m 0 c).arrAt 7 (cfgs 0).N ∧
    val_main_v13 (F := Ideal) x0 x1 x2 = (dats m 0 c).arrAt 8 (cfgs 0).N := by
  subst e0 e1 e2
  exact ⟨(final4 m c).symm, (final5 m c).symm, (final6 m c).symm, (final7 m c).symm, (final8 m c).symm⟩

/-- The call and the reference end with equal results, whatever arguments they start from. -/
theorem algebraic : Cert.algebraic_InpIdeal_InpRefIdeal := by
  intro m g m' g' hpre hagree
  refine ⟨_, _, _, _, _, Cert.InpIdeal.Value.run_blocks m g,
    θ_run_mono (Cert.InpRefIdeal.Row.ends m' g') fun r hr c => ?_⟩
  obtain ⟨h0, h1, h2, h3, h4, h⟩ := hr c
  obtain ⟨a0, a1, a2⟩ := hagree c
  obtain ⟨s0, s1, s2, s3, s4⟩ := same_of m c _ _ _ a0 a1 a2
  exact ⟨h0.trans s0, h1.trans s1, h2.trans s2, h3.trans s3, h4.trans s4, h⟩

end Cert.InpIdeal.Out

end
-- ==== Proof.DhxIdealRuns.lean ====
/- The input projection's backward call, set up: the arrays that its region finds, the blocks that its windows read, the point
   at which the matrix is copied, the buffers and semaphores of its own. -/
module

public import proofs.«01_k».proof.Proof.Gen.DhxIdeal.Launch
public import proofs.«01_k».proof.Proof.Gen.DhxIdeal.Skeleton
public import proofs.«01_k».proof.Proof.Gen.DhxIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DhxIdeal.Copy

open Cert.DhxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays of core `c` when the region starts: the host has written the turned and the rounded matrix. -/
abbrev V (c : Dev nD) (b : Ref sig .tc) : Buf (Elt F) ((c : Thread nD τ).loc b) := StableHlo.after hostOps0 (fun b => m (c, b)) b

/-- The host's operations allocate nothing. -/
theorem hostOps0_fresh : (hostOps0 : List (HloOp τ sig (Elt F))).Forall fun op => op.fresh = ∅ := by
  simp only [List.Forall]; repeat' constructor

set_option maxHeartbeats 800000 in

/-- The program is the host's operations and then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes two arrays; the region finds every other one as it was at the start. -/
theorem V_unwritten (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by assumption)))

/-- The arguments among them. -/
theorem V_main_arg0 (c : Dev nD) : V m c main_arg0 = m ((c : Thread nD τ).loc main_arg0) :=
  V_unwritten m c _ (by decide) (by decide)
theorem V_main_arg1 (c : Dev nD) : V m c main_arg1 = m ((c : Thread nD τ).loc main_arg1) :=
  V_unwritten m c _ (by decide) (by decide)
theorem V_main_arg2 (c : Dev nD) : V m c main_arg2 = m ((c : Thread nD τ).loc main_arg2) :=
  V_unwritten m c _ (by decide) (by decide)
theorem V_main_arg3 (c : Dev nD) : V m c main_arg3 = m ((c : Thread nD τ).loc main_arg3) :=
  V_unwritten m c _ (by decide) (by decide)
theorem V_main_arg4 (c : Dev nD) : V m c main_arg4 = m ((c : Thread nD τ).loc main_arg4) :=
  V_unwritten m c _ (by decide) (by decide)
theorem V_main_arg5 (c : Dev nD) : V m c main_arg5 = m ((c : Thread nD τ).loc main_arg5) :=
  V_unwritten m c _ (by decide) (by decide)
theorem V_main_arg6 (c : Dev nD) : V m c main_arg6 = m ((c : Thread nD τ).loc main_arg6) :=
  V_unwritten m c _ (by decide) (by decide)
theorem V_main_arg7 (c : Dev nD) : V m c main_arg7 = m ((c : Thread nD τ).loc main_arg7) :=
  V_unwritten m c _ (by decide) (by decide)

/-- The block of window `w`'s array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point, whether it was fetched there or kept; for each of the seven inputs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A launch that ends with the pipeline's arrays ends with the arguments as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-- The branch of the body: is this the first point? -/
abbrev cond0_0 (i : grid0.Coords) : Prop := (Scalar.cmpi .ne (Scalar.extui (Scalar.cmpi .eq (BitVec.ofNat 32 (i 0).val) 0#32)) 0#32) = 1#1

/-- It is so at point 0 only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- A buffer of each output, through which its contents are read. -/
abbrev VO0_7 : View sig .tc .vmem S256x2048 .f32 := (Memref.whole cc0_stg7_0 : Memref sig .tc .vmem S256x2048 .f32).view

abbrev VO0_8 : View sig .tc .vmem S1x2048 .f32 := (Memref.whole cc0_stg8_0 : Memref sig .tc .vmem S1x2048 .f32).view

abbrev VO0_9 : View sig .tc .vmem S1x2048 .f32 := (Memref.whole cc0_stg9_0 : Memref sig .tc .vmem S1x2048 .f32).view

/-- Each window's buffer at point `t`, and that it is a whole buffer. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)

/-- The scratch that the matrix is copied to, -/
abbrev scM0_0 : Memref sig .tc .vmem S5632x2048 .bf16 := Memref.whole cc0_scratch0

/-- as a view; -/
abbrev VS0_0 : View sig .tc .vmem S5632x2048 .bf16 := scM0_0.view

/-- and the matrix in the large memory. -/
abbrev hbM0_0 : Memref sig .tc .hbm S5632x2048 .bf16 := Memref.whole main_v1

/-- A buffer's contents, and the buffer held whole at them. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The four semaphores of the body's own copies: none is a window's. -/
abbrev osem0 : Fin 4 → SemLoc sig := fun j => (![SemLoc.dma 17, SemLoc.dma 18, SemLoc.dma 19, SemLoc.dma 20] : Fin 4 → SemLoc sig) j
theorem ownSemFacts0 : Pipeline.OwnSemFacts spec0 osem0 := by decide

/-- They start at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3] (by decide) (by decide)]; rfl

/-- The one array that the body copies by itself: no window has it. -/
def H0 : Finset (Ref sig .tc) := {main_v1}
theorem H0_sub : H0 ⊆ Pipeline.restRefs sig spec0 := by decide

/-- It is held at the contents that the region finds. -/
theorem hbmPts0_eq (c : Dev nD) :
    (bigSep H0 (fun b => ((c : Thread nD τ).loc b) ↦{fullShare} V m c b) : sProp 𝕄) = iprop(hbPt0 c hbM0_0 (V m c main_v1)) := by
  rw [BI.bigSep_eq_bigSepL_of_eq [main_v1] (by decide) (by decide)]; rfl

/-- What the body is handed beside its windows' buffers: the scratch, the generator, the semaphores at zero, the matrix. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v1))) := by
  rw [Pipeline.ΦD_eq, scopedRest0_eq, ownSems00_eq, hbmPts0_eq]; simp only [scM0_0, owns_whole]; try rfl

end Cert.DhxIdeal.Copy

end
-- ==== Proof.DhxIdealRunA.lean ====
/- The body at the first grid point: it starts the four copies of the matrix's pieces, clears the two sums, and waits for each
   copy before the product that reads it. -/
module

public import proofs.«01_k».proof.Proof.DhxIdealRuns

@[expose] public section

set_option maxRecDepth 16384

noncomputable section

namespace Cert.DhxIdeal.Copy

open Cert.DhxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The body's run at the first point, with the pieces that it leaves in the outputs' buffers and in the scratch. -/
noncomputable def kernelRun0_A (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) :
    Σ' (L7 : List (View.Piece (Elt F) S256x2048 .f32)), Σ' (L8 : List (View.Piece (Elt F) S1x2048 .f32)), Σ' (L9 : List (View.Piece (Elt F) S1x2048 .f32)), { LS0 : List (View.Piece (Elt F) S5632x2048 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_dh_gradx i arg1 harg1 arg2 harg2 arg3 harg3 arg4 harg4 (Memref.whole main_v1) (Memref.isWhole_whole _) arg6 harg6 arg7 harg7 arg8 harg8 arg9 harg9 arg10 harg10 arg11 harg11 arg12 harg12 cc0_scratch1) K } := by
  refine ⟨?_, ?_, ?_, ?_, fun W K => ?run⟩
  case run =>
    simp only [cc0_dh_gradx_eq_skeleton]; unfold cc0_dh_gradx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.DhxIdeal.Copy

end
-- ==== Proof.DhxIdealRunB.lean ====
/- The body at a later grid point: the matrix is already in the scratch. -/
module

public import proofs.«01_k».proof.Proof.DhxIdealRunA

@[expose] public section

set_option maxRecDepth 16384

noncomputable section

namespace Cert.DhxIdeal.Copy

open Cert.DhxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in

/-- The body's run at a later point, with the pieces that it leaves in the outputs' buffers; the scratch stays as it is. -/
noncomputable def kernelRun0_B (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) :
    Σ' (L7 : List (View.Piece (Elt F) S256x2048 .f32)), Σ' (L8 : List (View.Piece (Elt F) S1x2048 .f32)), Σ' (L9 : List (View.Piece (Elt F) S1x2048 .f32)), { LS0 : List (View.Piece (Elt F) S5632x2048 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ owns (c : Thread nD τ) arg12 fullShare xs0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_dh_gradx i arg1 harg1 arg2 harg2 arg3 harg3 arg4 harg4 (Memref.whole main_v1) (Memref.isWhole_whole _) arg6 harg6 arg7 harg7 arg8 harg8 arg9 harg9 arg10 harg10 arg11 harg11 arg12 harg12 cc0_scratch1) K } := by
  refine ⟨?_, ?_, ?_, [], fun W K => ?run⟩
  case run =>
    simp only [cc0_dh_gradx_eq_skeleton]; unfold cc0_dh_gradx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.DhxIdeal.Copy

end
-- ==== Proof.DhxIdealFrame.lean ====
/- The input projection's backward call as a whole: what its buffers hold after each grid point, that every point's body keeps
   to it, and that the launch ends with its arguments unchanged. -/
module

public import proofs.«01_k».proof.Proof.DhxIdealRunB
public import Idealize.ShloMosaic.Lib.Claim

@[expose] public section

set_option maxRecDepth 16384

noncomputable section

namespace Cert.DhxIdeal.Copy

open Cert.DhxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- At the first point: the pieces stored to each output and to the scratch cover it, and what it then holds. -/
theorem cover0_A_7 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) (y : S256x2048.Idx) :
    ∃ pc ∈ (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).1, y ∈ pc.1.set :=
  View.cover_of_tiledL (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).1 S256x2048.size (by sl_kernel_rfl) y

def out0_A_7 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) : Vec F S256x2048 .f32 :=
  VO0_7.read (Elt F) (VO0_7.writes (Elt F) VO0_7.junk (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).1)

theorem cover0_A_8 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) (y : S1x2048.Idx) :
    ∃ pc ∈ (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.1, y ∈ pc.1.set :=
  View.cover_of_tiledL (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.1 S1x2048.size (by sl_kernel_rfl) y

def out0_A_8 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) : Vec F S1x2048 .f32 :=
  VO0_8.read (Elt F) (VO0_8.writes (Elt F) VO0_8.junk (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.1)

theorem cover0_A_9 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) (y : S1x2048.Idx) :
    ∃ pc ∈ (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.1, y ∈ pc.1.set :=
  View.cover_of_tiledL (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.1 S1x2048.size (by sl_kernel_rfl) y

def out0_A_9 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) : Vec F S1x2048 .f32 :=
  VO0_9.read (Elt F) (VO0_9.writes (Elt F) VO0_9.junk (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.1)

theorem scover0_A_0 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) (y : S5632x2048.Idx) :
    ∃ pc ∈ (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.2.1, y ∈ pc.1.set :=
  View.cover_of_tiledBy (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.2.1 ![512, 2048] (by sl_kernel_rfl) y

def sout0_A_0 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (fh0 : HbBuf0 (F := F) c hbM0_0) : Vec F S5632x2048 .bf16 :=
  VS0_0.read (Elt F) (VS0_0.writes (Elt F) VS0_0.junk (kernelRun0_A c i arg1 harg1 arg2 harg2 arg3 harg3 arg4 harg4 arg6 harg6 arg7 harg7 arg8 harg8 arg9 harg9 arg10 harg10 arg11 harg11 arg12 harg12 hc0 x0 x1 x2 x3 x4 x5 x6 fh0).2.2.2.1)

/-- At a later point: the same of the outputs. -/
theorem cover0_B_7 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) (y : S256x2048.Idx) :
    ∃ pc ∈ (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).1, y ∈ pc.1.set :=
  View.cover_of_tiledL (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).1 S256x2048.size (by sl_kernel_rfl) y

def out0_B_7 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) : Vec F S256x2048 .f32 :=
  VO0_7.read (Elt F) (VO0_7.writes (Elt F) VO0_7.junk (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).1)

theorem cover0_B_8 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) (y : S1x2048.Idx) :
    ∃ pc ∈ (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.1, y ∈ pc.1.set :=
  View.cover_of_tiledL (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.1 S1x2048.size (by sl_kernel_rfl) y

def out0_B_8 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) : Vec F S1x2048 .f32 :=
  VO0_8.read (Elt F) (VO0_8.writes (Elt F) VO0_8.junk (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.1)

theorem cover0_B_9 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) (y : S1x2048.Idx) :
    ∃ pc ∈ (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.2.1, y ∈ pc.1.set :=
  View.cover_of_tiledL (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.2.1 S1x2048.size (by sl_kernel_rfl) y

def out0_B_9 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) : Vec F S1x2048 .f32 :=
  VO0_9.read (Elt F) (VO0_9.writes (Elt F) VO0_9.junk (kernelRun0_B c i arg1 harg1 arg2 harg2 arg3 harg3 arg4 harg4 arg6 harg6 arg7 harg7 arg8 harg8 arg9 harg9 arg10 harg10 arg11 harg11 arg12 harg12 hc0 x0 x1 x2 x3 x4 x5 x6 xo8 xo9 xs0 fh0).2.2.1)

/-- The scratch stays at what the point before left. -/
def sout0_B_0 (c : Dev nD) (i : grid0.Coords) (arg1 : Memref sig .tc .vmem S256x1536 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S5632x2048 .bf16) (harg12 : arg12.IsWhole) (hc0 : ¬cond0_0 i)
    (x0 : Vec F S256x1536 .bf16) (x1 : Vec F S256x1024 .bf16) (x2 : Vec F S256x2048 .bf16) (x3 : Vec F S256x1024 .bf16) (x4 : Vec F S256x2048 .f32) (x5 : Vec F S256x2048 .f32) (x6 : Vec F S1x2048 .f32) (xo8 : Vec F S1x2048 .f32) (xo9 : Vec F S1x2048 .f32) (xs0 : Vec F S5632x2048 .bf16) (fh0 : HbBuf0 (F := F) c hbM0_0) : Vec F S5632x2048 .bf16 := xs0

/-- What the three outputs' buffers and the scratch hold after point `n`. -/
def outsAt0 (c : Dev nD) : (n : ℕ) → n < cfg0.N → Vec F S256x2048 .f32 × Vec F S1x2048 .f32 × Vec F S1x2048 .f32 × Vec F S5632x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1))
  | n + 1, hn =>
    if h0 : (n + 1) % 32 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2 (V m c main_v1), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2 (V m c main_v1), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2 (V m c main_v1), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2 (V m c main_v1))

/-- At the first point, -/
theorem outsAt0_A (c : Dev nD) (t : Fin cfg0.N) (h0 : t.val % 32 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (V m c main_v1), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (V m c main_v1), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (V m c main_v1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (V m c main_v1)) := by
  obtain ⟨n, hn⟩ := t
  cases n with
  | zero => exact rfl
  | succ n => exact (dif_pos h0).trans rfl

/-- and at a later one, over what the point before left. -/
theorem outsAt0_B (c : Dev nD) (t : Fin cfg0.N) (h0 : ¬t.val % 32 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v1), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v1), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v1), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v1)) := by
  obtain ⟨n, hn⟩ := t
  cases n with
  | zero => exact (by exfalso; (try dsimp only at h0); exact absurd (Nat.zero_mod _) h0)
  | succ n => exact (dif_neg h0).trans rfl

/-- What holds between points: the scratch is at what the point before left, the semaphores are at zero, the matrix is as it was. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v1)))

/-- Before the first point the scratch is at anything, -/
theorem PhiS_zero (c : Dev nD) (n : ℕ) (h : n ≤ cfg0.N) (hz : n = 0) : PhiS m c n h = Pipeline.ΦD osem0 spec0 H0 (V m) c := by
  subst hz; rfl

/-- after a point it is at what that point left, -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v1))) := rfl

/-- and so it is before a later point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v1))) := by
  cases n with
  | zero => exact absurd rfl hz
  | succ n => rfl

/-- The pipeline's data: its arrays, what each window's buffer holds after each point, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- Its arrays are those that the region finds. -/
theorem A_eq (c : Dev nD) (w : Fin cfg0.W) : (dats m 0 c).A w = V m c (Pipeline.arrRef spec0 w) := by
  dsimp only [dats]

/-- What holds as a point starts. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each window's buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- What each input's buffer holds as a point starts: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- As a later point starts, a sum's buffer holds what the point before left. -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in

/-- At every point the body, given the one, gives back the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      unfold out0_A_7 out0_A_8 out0_A_9 sout0_A_0; (try dsimp only)
      iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (V m c main_v1)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, H5, H6, ⟨%e7, H7⟩, ⟨%e8, H8⟩, ⟨%e9, H9⟩, ⟨%es0, HS0⟩, Hq0, Hq1, Hq2, Hq3, Hh0, ⟨%W', HW'⟩⟩
      isplitl [HS0 Hg Hq0 Hq1 Hq2 Hq3 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_8_B m c t h0, before0_9_B m c t h0]
      unfold out0_B_7 out0_B_8 out0_B_9 sout0_B_0; (try dsimp only)
      iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _ (V m c main_v1)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, H5, H6, ⟨%e7, H7⟩, ⟨%e8, H8⟩, ⟨%e9, H9⟩, HS0, Hq0, Hq1, Hq2, Hq3, Hh0, ⟨%W', HW'⟩⟩
      isplitl [HS0 Hg Hq0 Hq1 Hq2 Hq3 Hh0]
      · isplitl [HS0]
        · iexact HS0
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _)

/-- The pipeline's body at point `t` is this body. -/
theorem defs₀_row (t : Fin cfg0.N) :
    defs₀ (F := F) .tc cfg0.body (cfg0.bodyArgs t (cfg0.slots t)) = bodyAt0 t := by
  unfold defs₀; rw [Defs.onTc_tc]

/-- So the body does what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point, -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- and after any later point it is handed back, -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- after the last one too. -/
theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in

/-- The launch ends with the pipeline's arrays and with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The launch ends with the pipeline's arrays, -/
theorem run_main : θ_run defs (onTc (τ := τ) (main (F := F))) (s₀ m ρ) (Pipeline.FramePost cfgs (dats m) 0 (V m)) :=
  (θ_run defs _ _).mono (fun _ h => h.1) (run_main_quiescent m ρ)

/-- with its arguments unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- and with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.DhxIdeal.Copy

end
-- ==== Proof.DhxRef.lean ====
/- What the reference of the input projection's backward call computes, entry by entry: the gradient of the projection's
   rows by its matrix, a sum over the four segments of its columns, and from it the gradients of the input and of the
   modulation. -/
module

public import proofs.«01_k».proof.Proof.Gen.DhxRefIdeal.Read
public import proofs.«01_k».proof.Proof.InpRef

@[expose] public section

set_option maxRecDepth 16384

noncomputable section

namespace Cert.DhxRow

open Idealize.ShloMosaic Cert.DhxRefIdeal Cert.DhxRefIdeal.Gen Cert.DhxRefIdeal.Read
open Cert.InpRow (low mid col)

/-- A sum over the projection's columns, segment by segment. -/
theorem sum_cols (f : Fin 5632 → EReal) : ∑ k, f k
    = ((∑ k, f (col 0 1536 (by decide) k) + ∑ k, f (col 1536 1024 (by decide) k)) + ∑ k, f (col 2560 2048 (by decide) k))
      + ∑ k, f (col 4608 1024 (by decide) k) := by
  refine (Fin.sum_univ_add (a := 4608) (b := 1024) f).trans (congrArg₂ (· + ·) ?_ rfl)
  refine (Fin.sum_univ_add (a := 2560) (b := 2048) fun k => f (Fin.castAdd 1024 k)).trans (congrArg₂ (· + ·) ?_ rfl)
  refine (Fin.sum_univ_add (a := 1536) (b := 1024) fun k => f (Fin.castAdd 1024 (Fin.castAdd 2048 k))).trans
    (congrArg₂ (· + ·) (Finset.sum_congr rfl fun k _ => congrArg f (Fin.ext ?_)) rfl)
  show k.val = 0 + k.val
  omega

variable (A : FVec Ideal S8192x1536 .bf16) (B : FVec Ideal S8192x1024 .bf16) (C : FVec Ideal S8192x2048 .bf16)
  (D : FVec Ideal S8192x1024 .bf16) (W : FVec Ideal S2048x5632 .f32) (Z X : FVec Ideal S8192x2048 .f32)
  (M : FVec Ideal S1x6144 .f32)

/-- The gradient of feature `j` of token `i`'s modulated row. -/
def dh (i : Fin 8192) (j : Fin 2048) : EReal :=
  ((∑ k, A (ix2 i k) * W (ix2 j (col 0 1536 (by decide) k)) + ∑ k, B (ix2 i k) * W (ix2 j (col 1536 1024 (by decide) k)))
    + ∑ k, C (ix2 i k) * W (ix2 j (col 2560 2048 (by decide) k))) + ∑ k, D (ix2 i k) * W (ix2 j (col 4608 1024 (by decide) k))

/-- The gradient of feature `j` of token `i`'s input: the residual's share and the projection's. -/
def dx (i : Fin 8192) (j : Fin 2048) : EReal :=
  Ideal.ofBits .f32 0x3F9837F0#32 * Z (ix2 i j) + dh A B C D W i j * (1 + M (ix2 0 (mid j)))

theorem seg0 (i : Fin 8192) (k : Fin 1536) :
    val_main_v7 (F := Ideal) A B C D (ix2 i (col 0 1536 (by decide) k)) = A (ix2 i k) := by
  have h0 : 0 + k.val < 1536 := by omega
  pointwise [val_main_v7, val_main_v3, col]

theorem seg1 (i : Fin 8192) (k : Fin 1024) :
    val_main_v7 (F := Ideal) A B C D (ix2 i (col 1536 1024 (by decide) k)) = B (ix2 i k) := by
  have h0 : ¬ 1536 + k.val < 1536 := by omega
  have h1 : 1536 + k.val - 1536 < 1024 := by omega
  have e : 1536 + k.val - 1536 = k.val := by omega
  pointwise [val_main_v7, val_main_v4, col]

theorem seg2 (i : Fin 8192) (k : Fin 2048) :
    val_main_v7 (F := Ideal) A B C D (ix2 i (col 2560 2048 (by decide) k)) = C (ix2 i k) := by
  have h0 : ¬ 2560 + k.val < 1536 := by omega
  have h1 : ¬ 2560 + k.val - 1536 < 1024 := by omega
  have h2 : 2560 + k.val - 1536 - 1024 < 2048 := by omega
  have e : 2560 + k.val - 1536 - 1024 = k.val := by omega
  pointwise [val_main_v7, val_main_v5, col]
  simp only [h0, h1, h2, dif_pos, dif_neg, not_false_eq_true, e]
  exact dif_pos k.isLt

theorem seg3 (i : Fin 8192) (k : Fin 1024) :
    val_main_v7 (F := Ideal) A B C D (ix2 i (col 4608 1024 (by decide) k)) = D (ix2 i k) := by
  have h0 : ¬ 4608 + k.val < 1536 := by omega
  have h1 : ¬ 4608 + k.val - 1536 < 1024 := by omega
  have h2 : ¬ 4608 + k.val - 1536 - 1024 < 2048 := by omega
  have e : 4608 + k.val - 1536 - 1024 - 2048 = k.val := by omega
  pointwise [val_main_v7, val_main_v6, col]
  simp only [h0, h1, h2, dif_pos, dif_neg, not_false_eq_true, e]

theorem v19 (i : Fin 8192) (j : Fin 2048) : val_main_v19 (F := Ideal) A B C D W (ix2 i j) = dh A B C D W i j := by
  pointwise [val_main_v19]
  rw [sum_cols]
  simp only [seg0, seg1, seg2, seg3]
  rfl

theorem v27 (i : Fin 8192) (j : Fin 2048) :
    val_main_v27 (F := Ideal) A B C D W Z M (ix2 i j) = dx A B C D W Z M i j := by
  pointwise [val_main_v27, val_main_v26, val_main_v25, val_main_v9, val_main_v8, val_main_v1, val_main_cst, val_main_v18,
    val_main_v17, val_main_cst_1]
  rw [v19]
  rfl

theorem v21 (j : Fin 2048) : val_main_v21 (F := Ideal) A B C D W (ix2 0 j) = ∑ i, dh A B C D W i j := by
  pointwise [val_main_v21, val_main_v20, val_main_cst_2]
  simp only [v19]

theorem v24 (j : Fin 2048) : val_main_v24 (F := Ideal) A B C D W X (ix2 0 j) = ∑ i, dh A B C D W i j * X (ix2 i j) := by
  pointwise [val_main_v24, val_main_v23, val_main_v22, val_main_cst_3]
  simp only [v19]
  exact Finset.sum_congr rfl fun i _ => mul_comm _ _

end Cert.DhxRow

end
-- ==== Proof.DhxOut.lean ====
/- What the input projection's backward call writes at one grid point, and what its sums hold. -/
module

public import proofs.«01_k».proof.Proof.DhxIdealFrame
public import proofs.«01_k».proof.Proof.DhxRef
public import Idealize.ShloMosaic.Lib.Pipeline.ValueKit

@[expose] public section

set_option maxRecDepth 16384

noncomputable section

namespace Cert.DhxIdeal.Out

open Cert.DhxIdeal Cert.DhxIdeal.Gen Cert.DhxIdeal.Copy Idealize.ShloMosaic Idealize.ShloMosaic.TcCoe Idealize.SL.Sem
open Idealize.ShloMosaic.Pipeline (Dat)
open Cert.InpRow (low mid col)

variable (m : (ℓ : Loc nD τ sig) → Buf (Elt Ideal) ℓ) (c : Dev nD)

/-- The matrix that the host hands to the call. -/
def mat : FVec Ideal S5632x2048 .bf16 := Copy.V m c main_v1

/-- The four pieces in which the first point copies the matrix. -/
def pieces : List (View.Piece (Elt Ideal) S5632x2048 .bf16) :=
  [⟨Rect.unit ![4608, 0] ![1024, 2048] inb_S5632x2048_S1024x2048_4608_0, ReadAs.same.apply (View.read (Elt Ideal)
      ((View.whole main_v1).slice (Rect.unit ![4608, 0] ![1024, 2048] inb_S5632x2048_S1024x2048_4608_0)) (Copy.V m c main_v1))⟩,
    ⟨Rect.unit ![2560, 0] ![2048, 2048] inb_S5632x2048_S2048x2048_2560_0, ReadAs.same.apply (View.read (Elt Ideal)
      ((View.whole main_v1).slice (Rect.unit ![2560, 0] ![2048, 2048] inb_S5632x2048_S2048x2048_2560_0)) (Copy.V m c main_v1))⟩,
    ⟨Rect.unit ![1536, 0] ![1024, 2048] inb_S5632x2048_S1024x2048_1536_0, ReadAs.same.apply (View.read (Elt Ideal)
      ((View.whole main_v1).slice (Rect.unit ![1536, 0] ![1024, 2048] inb_S5632x2048_S1024x2048_1536_0)) (Copy.V m c main_v1))⟩,
    ⟨Rect.unit ![0, 0] ![1536, 2048] inb_S5632x2048_S1536x2048_0_0, ReadAs.same.apply (View.read (Elt Ideal)
      ((View.whole main_v1).slice (Rect.unit ![0, 0] ![1536, 2048] inb_S5632x2048_S1536x2048_0_0)) (Copy.V m c main_v1))⟩]

/-- Together they are the whole matrix. -/
theorem pieces_mat : View.canon (pieces m c) = mat m c := by
  funext y
  refine View.canon_apply_of_pieces (mat m c) (pieces m c) (fun p hp x => ?_) y
    (View.cover_of_tiledBy (pieces m c) ![512, 2048] (by sl_kernel_rfl) y)
  simp only [pieces, List.mem_cons, List.not_mem_nil, or_false] at hp
  rcases hp with rfl | rfl | rfl | rfl <;> rfl

/-- After any point the scratch holds the matrix. -/
theorem scratch (n : ℕ) : ∀ hn : n < cfg0.N, (Copy.outsAt0 m c n hn).2.2.2 = mat m c := by
  induction n with
  | zero =>
    intro hn
    rw [Copy.outsAt0_A m c ⟨0, hn⟩ rfl]
    frame_out
    exact pieces_mat m c
  | succ n ih =>
    intro hn
    by_cases h0 : (n + 1) % 32 = 0
    · rw [Copy.outsAt0_A m c ⟨n + 1, hn⟩ h0]
      frame_out
      exact pieces_mat m c
    · rw [Copy.outsAt0_B m c ⟨n + 1, hn⟩ h0]
      frame_out
      exact ih _

/-- The matrix's rows that belong to each of the four segments. -/
def seg0 (B : FVec Ideal S5632x2048 .bf16) : FVec Ideal S1536x2048 .bf16 :=
  View.ld (Val := Elt Ideal) (e' := .bf16) B (Rect.unit ![0, 0] ![1536, 2048] inb_S5632x2048_S1536x2048_0_0)
def seg1 (B : FVec Ideal S5632x2048 .bf16) : FVec Ideal S1024x2048 .bf16 :=
  View.ld (Val := Elt Ideal) (e' := .bf16) B (Rect.unit ![1536, 0] ![1024, 2048] inb_S5632x2048_S1024x2048_1536_0)
def seg2 (B : FVec Ideal S5632x2048 .bf16) : FVec Ideal S2048x2048 .bf16 :=
  View.ld (Val := Elt Ideal) (e' := .bf16) B (Rect.unit ![2560, 0] ![2048, 2048] inb_S5632x2048_S2048x2048_2560_0)
def seg3 (B : FVec Ideal S5632x2048 .bf16) : FVec Ideal S1024x2048 .bf16 :=
  View.ld (Val := Elt Ideal) (e' := .bf16) B (Rect.unit ![4608, 0] ![1024, 2048] inb_S5632x2048_S1024x2048_4608_0)

/-- What a point finds in the two accumulators: what the point before left, or zeros at the first. -/
def before (t : Fin cfg0.N) : FVec Ideal S1x2048 .f32 × FVec Ideal S1x2048 .f32 :=
  if t.val % 32 = 0 then (k0_pay5, k0_pay6)
  else ((Copy.outsAt0 m c (t.val - 1) (Nat.lt_of_le_of_lt (Nat.sub_le _ _) t.isLt)).2.1,
    (Copy.outsAt0 m c (t.val - 1) (Nat.lt_of_le_of_lt (Nat.sub_le _ _) t.isLt)).2.2.1)

/-- The products of the first three segments. -/
abbrev three (t : Fin cfg0.N) : FVec Ideal S256x2048 .f32 :=
  k0_pay7 (Copy.iblk m c 0 t) (seg0 (mat m c)) (Copy.iblk m c 1 t) (seg1 (mat m c)) (Copy.iblk m c 2 t) (seg2 (mat m c))

/-- Everything that point `t` leaves. -/
def left (t : Fin cfg0.N) : FVec Ideal S256x2048 .f32 × FVec Ideal S1x2048 .f32 × FVec Ideal S1x2048 .f32
    × FVec Ideal S5632x2048 .bf16 :=
  (k0_pay2 (three m c t) (Copy.iblk m c 3 t) (seg3 (mat m c)) (Copy.iblk m c 4 t) (Copy.iblk m c 6 t),
    k0_pay3 (three m c t) (Copy.iblk m c 3 t) (seg3 (mat m c)) (before m c t).1,
    k0_pay4 (three m c t) (Copy.iblk m c 3 t) (seg3 (mat m c)) (before m c t).2 (Copy.iblk m c 5 t), mat m c)

theorem outs (t : Fin cfg0.N) : Copy.outsAt0 m c t.val t.isLt = left m c t := by
  refine Prod.ext ?_ (Prod.ext ?_ (Prod.ext ?_ (scratch m c t.val t.isLt)))
  all_goals
    by_cases h0 : t.val % 32 = 0
    · rw [left, before, if_pos h0, Copy.outsAt0_A m c t h0]
      frame_out
      have e := pieces_mat m c
      unfold pieces at e
      simp only [View.readCov_eq_canon', e]
      rfl
    · rw [left, before, if_neg h0, Copy.outsAt0_B m c t h0]
      frame_out
      simp only [(Memref.isWhole_whole cc0_scratch0).read_unread, scratch]
      rfl

end Cert.DhxIdeal.Out

end
-- ==== Proof.DhxBlk.lean ====
/- The payloads of the input projection's backward call at one grid point, and the blocks that it reads there. -/
module

public import proofs.«01_k».proof.Proof.DhxOut

@[expose] public section

set_option maxRecDepth 16384

noncomputable section

namespace Cert.DhxIdeal.Out

open Cert.DhxIdeal Cert.DhxIdeal.Gen Cert.DhxIdeal.Copy Idealize.ShloMosaic Idealize.ShloMosaic.TcCoe Idealize.SL.Sem
open Idealize.ShloMosaic.Pipeline (Dat)
open Cert.InpRow (low mid col)

section
variable (a : FVec Ideal S256x1536 .bf16) (wa : FVec Ideal S1536x2048 .bf16) (b : FVec Ideal S256x1024 .bf16)
  (wb : FVec Ideal S1024x2048 .bf16) (d : FVec Ideal S256x2048 .bf16) (wd : FVec Ideal S2048x2048 .bf16)
  (e : FVec Ideal S256x1024 .bf16) (we : FVec Ideal S1024x2048 .bf16)

/-- The four products of a block, added up. -/
def four (r : Fin 256) (j : Fin 2048) : EReal :=
  ((∑ k, a (ix2 r k) * wa (ix2 k j) + ∑ k, b (ix2 r k) * wb (ix2 k j)) + ∑ k, d (ix2 r k) * wd (ix2 k j))
    + ∑ k, e (ix2 r k) * we (ix2 k j)

theorem pay1 (r : Fin 256) (j : Fin 2048) :
    k0_pay1 (F := Ideal) (k0_pay7 a wa b wb d wd) e we (ix2 r j) = four a wa b wb d wd e we r j := by
  pointwise [k0_pay1, k0_pay7, four]

theorem pay2 (z : FVec Ideal S256x2048 .f32) (s : FVec Ideal S1x2048 .f32) (r : Fin 256) (j : Fin 2048) :
    k0_pay2 (F := Ideal) (k0_pay7 a wa b wb d wd) e we z s (ix2 r j)
      = Ideal.ofBits .f32 0x3F9837F0#32 * z (ix2 r j) + four a wa b wb d wd e we r j * (1 + s (ix2 0 j)) := by
  rw [← pay1]
  generalize k0_pay7 (F := Ideal) a wa b wb d wd = v
  pointwise [k0_pay2, k0_pay1]

theorem pay3 (p : FVec Ideal S1x2048 .f32) (j : Fin 2048) :
    k0_pay3 (F := Ideal) (k0_pay7 a wa b wb d wd) e we p (ix2 0 j) = p (ix2 0 j) + ∑ r, four a wa b wb d wd e we r j := by
  simp only [← pay1]
  generalize k0_pay7 (F := Ideal) a wa b wb d wd = v
  pointwise [k0_pay3, k0_pay1]

theorem pay4 (p : FVec Ideal S1x2048 .f32) (x : FVec Ideal S256x2048 .f32) (j : Fin 2048) :
    k0_pay4 (F := Ideal) (k0_pay7 a wa b wb d wd) e we p x (ix2 0 j)
      = p (ix2 0 j) + ∑ r, four a wa b wb d wd e we r j * x (ix2 r j) := by
  simp only [← pay1]
  generalize k0_pay7 (F := Ideal) a wa b wb d wd = v
  pointwise [k0_pay4, k0_pay1]

end

variable (m : (ℓ : Loc nD τ sig) → Buf (Elt Ideal) ℓ) (c : Dev nD)

/-- The token that row `r` of point `t`'s block is. -/
def tok (t : Fin cfg0.N) (r : Fin 256) : Fin 8192 :=
  ⟨t.val * 256 + r.val, by have : t.val < 32 := lt_of_lt_of_eq t.isLt N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 1]
    ∧ win0_7.index t = ![t.val, 0] ∧ win0_8.index t = ![0, 0] ∧ win0_9.index t = ![0, 0] :=
  (by decide +kernel : ∀ t : Fin grid0.N, _)

theorem blk0 (t : Fin cfg0.N) (r : Fin 256) (k : Fin 1536) :
    (show FVec Ideal S256x1536 .bf16 from Copy.iblk m c 0 t) (ix2 r k)
      = (show FVec Ideal S8192x1536 .bf16 from m ((c : Thread nD τ).loc main_arg0)) (ix2 (tok t r) k) := by
  rw [← Copy.V_main_arg0 m c]
  blk_ext [Copy.iblk, idx t, tok]

theorem blk1 (t : Fin cfg0.N) (r : Fin 256) (k : Fin 1024) :
    (show FVec Ideal S256x1024 .bf16 from Copy.iblk m c 1 t) (ix2 r k)
      = (show FVec Ideal S8192x1024 .bf16 from m ((c : Thread nD τ).loc main_arg1)) (ix2 (tok t r) k) := by
  rw [← Copy.V_main_arg1 m c]
  blk_ext [Copy.iblk, idx t, tok]

theorem blk2 (t : Fin cfg0.N) (r : Fin 256) (k : Fin 2048) :
    (show FVec Ideal S256x2048 .bf16 from Copy.iblk m c 2 t) (ix2 r k)
      = (show FVec Ideal S8192x2048 .bf16 from m ((c : Thread nD τ).loc main_arg2)) (ix2 (tok t r) k) := by
  rw [← Copy.V_main_arg2 m c]
  blk_ext [Copy.iblk, idx t, tok]

theorem blk3 (t : Fin cfg0.N) (r : Fin 256) (k : Fin 1024) :
    (show FVec Ideal S256x1024 .bf16 from Copy.iblk m c 3 t) (ix2 r k)
      = (show FVec Ideal S8192x1024 .bf16 from m ((c : Thread nD τ).loc main_arg3)) (ix2 (tok t r) k) := by
  rw [← Copy.V_main_arg3 m c]
  blk_ext [Copy.iblk, idx t, tok]

theorem blk4 (t : Fin cfg0.N) (r : Fin 256) (j : Fin 2048) :
    (show FVec Ideal S256x2048 .f32 from Copy.iblk m c 4 t) (ix2 r j)
      = (show FVec Ideal S8192x2048 .f32 from m ((c : Thread nD τ).loc main_arg5)) (ix2 (tok t r) j) := by
  rw [← Copy.V_main_arg5 m c]
  blk_ext [Copy.iblk, idx t, tok]

theorem blk5 (t : Fin cfg0.N) (r : Fin 256) (j : Fin 2048) :
    (show FVec Ideal S256x2048 .f32 from Copy.iblk m c 5 t) (ix2 r j)
      = (show FVec Ideal S8192x2048 .f32 from m ((c : Thread nD τ).loc main_arg6)) (ix2 (tok t r) j) := by
  rw [← Copy.V_main_arg6 m c]
  blk_ext [Copy.iblk, idx t, tok]

theorem blk6 (t : Fin cfg0.N) (j : Fin 2048) :
    (show FVec Ideal S1x2048 .f32 from Copy.iblk m c 6 t) (ix2 0 j)
      = (show FVec Ideal S1x6144 .f32 from m ((c : Thread nD τ).loc main_arg7)) (ix2 0 (mid j)) := by
  rw [← Copy.V_main_arg7 m c]
  blk_ext [Copy.iblk, idx t, mid]

/-- The host's matrix for the call: the argument transposed. -/
def turned (W : FVec Ideal S2048x5632 .f32) : FVec Ideal S5632x2048 .bf16 :=
  truncf .bf16 (transpose S5632x2048 [1, 0] W transposes_S2048x5632_S5632x2048_1_0) bitsLt_bf16_f32

theorem turned_apply (W : FVec Ideal S2048x5632 .f32) (k : Fin 5632) (j : Fin 2048) :
    turned W (ix2 k j) = W (ix2 j k) := by
  pointwise [turned]

theorem entry (k : Fin 5632) (j : Fin 2048) :
    mat m c (ix2 k j) = (show FVec Ideal S2048x5632 .f32 from m ((c : Thread nD τ).loc main_arg4)) (ix2 j k) := by
  show (show FVec Ideal S5632x2048 .bf16 from Copy.V m c main_v1) (ix2 k j) = _
  entry_read
  exact turned_apply _ k j

theorem seg0_apply (B : FVec Ideal S5632x2048 .bf16) (k : Fin 1536) (j : Fin 2048) :
    seg0 B (ix2 k j) = B (ix2 (col 0 1536 (by decide) k) j) :=
  congrArg B (funext fun a => Fin.ext (match a with
    | ⟨0, _⟩ => by show 0 + 1 * k.val = 0 + k.val; omega
    | ⟨1, _⟩ => by show 0 + 1 * j.val = j.val; omega))

theorem seg1_apply (B : FVec Ideal S5632x2048 .bf16) (k : Fin 1024) (j : Fin 2048) :
    seg1 B (ix2 k j) = B (ix2 (col 1536 1024 (by decide) k) j) :=
  congrArg B (funext fun a => Fin.ext (match a with
    | ⟨0, _⟩ => by show 1536 + 1 * k.val = 1536 + k.val; omega
    | ⟨1, _⟩ => by show 0 + 1 * j.val = j.val; omega))

theorem seg2_apply (B : FVec Ideal S5632x2048 .bf16) (k : Fin 2048) (j : Fin 2048) :
    seg2 B (ix2 k j) = B (ix2 (col 2560 2048 (by decide) k) j) :=
  congrArg B (funext fun a => Fin.ext (match a with
    | ⟨0, _⟩ => by show 2560 + 1 * k.val = 2560 + k.val; omega
    | ⟨1, _⟩ => by show 0 + 1 * j.val = j.val; omega))

theorem seg3_apply (B : FVec Ideal S5632x2048 .bf16) (k : Fin 1024) (j : Fin 2048) :
    seg3 B (ix2 k j) = B (ix2 (col 4608 1024 (by decide) k) j) :=
  congrArg B (funext fun a => Fin.ext (match a with
    | ⟨0, _⟩ => by show 4608 + 1 * k.val = 4608 + k.val; omega
    | ⟨1, _⟩ => by show 0 + 1 * j.val = j.val; omega))

/-- The gradient that the reference forms, of the arrays that the call reads. -/
abbrev grad (i : Fin 8192) (j : Fin 2048) : EReal :=
  DhxRow.dh (m ((c : Thread nD τ).loc main_arg0)) (m ((c : Thread nD τ).loc main_arg1)) (m ((c : Thread nD τ).loc main_arg2))
    (m ((c : Thread nD τ).loc main_arg3)) (m ((c : Thread nD τ).loc main_arg4)) i j

/-- The products at row `r` of point `t`'s block are the gradient of that token. -/
theorem four_grad (t : Fin cfg0.N) (r : Fin 256) (j : Fin 2048) :
    four (Copy.iblk m c 0 t) (seg0 (mat m c)) (Copy.iblk m c 1 t) (seg1 (mat m c)) (Copy.iblk m c 2 t) (seg2 (mat m c))
      (Copy.iblk m c 3 t) (seg3 (mat m c)) r j = grad m c (tok t r) j := by
  refine congrArg₂ (· + ·) (congrArg₂ (· + ·) (congrArg₂ (· + ·) ?_ ?_) ?_) ?_
  · exact Finset.sum_congr rfl fun k _ =>
      congrArg₂ (· * ·) (blk0 m c t r k) ((seg0_apply _ k j).trans (entry m c _ j))
  · exact Finset.sum_congr rfl fun k _ =>
      congrArg₂ (· * ·) (blk1 m c t r k) ((seg1_apply _ k j).trans (entry m c _ j))
  · exact Finset.sum_congr rfl fun k _ =>
      congrArg₂ (· * ·) (blk2 m c t r k) ((seg2_apply _ k j).trans (entry m c _ j))
  · exact Finset.sum_congr rfl fun k _ =>
      congrArg₂ (· * ·) (blk3 m c t r k) ((seg3_apply _ k j).trans (entry m c _ j))

end Cert.DhxIdeal.Out

end
-- ==== Proof.DhxFinal.lean ====
/- What the input projection's backward call leaves in its three results: the gradient of the input, token by token, and
   two sums over the tokens. -/
module

public import proofs.«01_k».proof.Proof.DhxBlk

@[expose] public section

set_option maxRecDepth 16384

noncomputable section

namespace Cert.DhxIdeal.Out

open Cert.DhxIdeal Cert.DhxIdeal.Gen Cert.DhxIdeal.Copy Idealize.ShloMosaic Idealize.ShloMosaic.TcCoe Idealize.SL.Sem
open Idealize.ShloMosaic.Pipeline (Dat)
open Cert.InpRow (low mid col)

variable (m : (ℓ : Loc nD τ sig) → Buf (Elt Ideal) ℓ) (c : Dev nD)

/-- An accumulator that starts from zero and gains a block's sum at every point ends with the sum over all tokens. -/
theorem total {ι : Type} (f : (n : ℕ) → n < cfg0.N → ι → EReal) (z : ι → EReal) (g : Fin 8192 → ι → EReal) (hz : ∀ i, z i = 0)
    (hf : ∀ t : Fin cfg0.N, ∀ i, f t.val t.isLt i
      = (if t.val % 32 = 0 then z else f (t.val - 1) (Nat.lt_of_le_of_lt (Nat.sub_le _ _) t.isLt)) i + ∑ r, g (tok t r) i)
    (t : Fin cfg0.N) (ht : t.val % 32 = 31) (i : ι) : f t.val t.isLt i = ∑ k, g k i := by
  have hN : cfg0.N = 32 := N_0
  have hlt := t.isLt
  rw [Pipeline.eq_sum_fin_of_reset_step_apply_last f 32 (fun _ => (0 : EReal)) (fun t i => ∑ r, g (tok t r) i)
    (fun t h i => by rw [hf t i, if_pos h, hz]) (fun t h i => by rw [hf t i, if_neg h]) (le_of_eq hN) t (by omega) i,
    zero_add, Fin.sum_univ_tiles 32 256 rfl]
  rfl

theorem acc8 (t : Fin cfg0.N) (ht : t.val % 32 = 31) (j : Fin 2048) :
    (Copy.outsAt0 m c t.val t.isLt).2.1 (ix2 0 j) = ∑ i, grad m c i j := by
  refine total (fun n h j => (Copy.outsAt0 m c n h).2.1 (ix2 0 j)) (fun j => k0_pay5 (F := Ideal) (ix2 0 j))
    (fun i j => grad m c i j) (fun j => by pointwise [k0_pay5]) (fun t j => ?_) t ht j
  rw [outs, left]
  refine (pay3 _ _ _ _ _ _ _ _ _ j).trans ?_
  refine congrArg₂ (· + ·) ?_ (Finset.sum_congr rfl fun r _ => four_grad m c t r j)
  rw [before]
  split_ifs <;> rfl

theorem acc9 (t : Fin cfg0.N) (ht : t.val % 32 = 31) (j : Fin 2048) :
    (Copy.outsAt0 m c t.val t.isLt).2.2.1 (ix2 0 j)
      = ∑ i, grad m c i j * (show FVec Ideal S8192x2048 .f32 from m ((c : Thread nD τ).loc main_arg6)) (ix2 i j) := by
  refine total (fun n h j => (Copy.outsAt0 m c n h).2.2.1 (ix2 0 j)) (fun j => k0_pay6 (F := Ideal) (ix2 0 j))
    (fun i j => grad m c i j * (show FVec Ideal S8192x2048 .f32 from m ((c : Thread nD τ).loc main_arg6)) (ix2 i j))
    (fun j => by pointwise [k0_pay6]) (fun t j => ?_) t ht j
  rw [outs, left]
  refine (pay4 _ _ _ _ _ _ _ _ _ _ j).trans ?_
  refine congrArg₂ (· + ·) ?_ (Finset.sum_congr rfl fun r _ =>
    congrArg₂ (· * ·) (four_grad m c t r j) (blk5 m c t r j))
  rw [before]
  split_ifs <;> rfl

/-- The gradient of the input. -/
theorem final7 : (Copy.dats m 0 c).arrAt 7 (cfgs 0).N = fun i : S8192x2048.Idx =>
    DhxRow.dx (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg7)) (i 0) (i 1) := by
  refine (Copy.dats m 0 c).arrAt_eq_of_covers 7 _ (by decide +kernel) fun t hf y => ?_
  blk_simp
  rw [Copy.after0_7, outs, left]
  idx_vars y
  refine (pay2 _ _ _ _ _ _ _ _ _ _ y0 y1).trans ?_
  have e : ((View.whole main_v2_0).slice (win0_7.rect t)).emb (ix2 y0 y1) = ix2 (tok t y0) y1 := by blk_ext [idx t, tok]
  rw [e]
  exact congrArg₂ (· + ·) (congrArg (Ideal.ofBits .f32 0x3F9837F0#32 * ·) (blk4 m c t y0 y1))
    (congrArg₂ (· * ·) (four_grad m c t y0 y1) (congrArg (1 + ·) (blk6 m c t y1)))

/-- The shift's gradient: the sum over the tokens. -/
theorem final8 : (Copy.dats m 0 c).arrAt 8 (cfgs 0).N = fun i : S1x2048.Idx => ∑ k, grad m c k (i 1) := by
  refine (Copy.dats m 0 c).arrAt_eq_of_covers 8 _ (by decide +kernel) fun t hf y => ?_
  have ht := (flush0_8 t).mp hf
  blk_simp
  rw [Copy.after0_8]
  idx_vars y
  obtain rfl : y0 = 0 := Subsingleton.elim _ _
  refine (acc8 m c t ht y1).trans ?_
  have e : ((View.whole main_v2_1).slice (win0_8.rect t)).emb (ix2 (0 : Fin 1) y1) = ix2 (0 : Fin 1) y1 := by blk_ext [idx t]
  rw [e]
  rfl

/-- The scale's gradient. -/
theorem final9 : (Copy.dats m 0 c).arrAt 9 (cfgs 0).N = fun i : S1x2048.Idx => ∑ k, grad m c k (i 1)
    * (show FVec Ideal S8192x2048 .f32 from m ((c : Thread nD τ).loc main_arg6)) (ix2 k (i 1)) := by
  refine (Copy.dats m 0 c).arrAt_eq_of_covers 9 _ (by decide +kernel) fun t hf y => ?_
  have ht := (flush0_9 t).mp hf
  blk_simp
  rw [Copy.after0_9]
  idx_vars y
  obtain rfl : y0 = 0 := Subsingleton.elim _ _
  refine (acc9 m c t ht y1).trans ?_
  have e : ((View.whole main_v2_2).slice (win0_9.rect t)).emb (ix2 (0 : Fin 1) y1) = ix2 (0 : Fin 1) y1 := by blk_ext [idx t]
  rw [e]
  rfl

end Cert.DhxIdeal.Out

end
-- ==== Proof.DhxRefRun.lean ====
/- The reference of the input projection's backward call ends with its results and leaves its arguments. -/
module

public import proofs.«01_k».proof.Proof.Gen.DhxRefIdeal.Read

@[expose] public section

set_option maxRecDepth 16384

noncomputable section

namespace Cert.DhxRefIdeal.Row

open Cert.DhxRefIdeal Cert.DhxRefIdeal.Gen Cert.DhxRefIdeal.Read Idealize.ShloMosaic Idealize.ShloMosaic.TcCoe Idealize.SL.Sem

theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v24) = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Cert.DhxRefIdeal.Value.run (F := Ideal) m g

end Cert.DhxRefIdeal.Row

end
-- ==== Proof.DhxAlg.lean ====
/- The claim of the input projection's backward call. -/
module

public import proofs.«01_k».proof.Defs
public import proofs.«01_k».proof.Proof.DhxFinal
public import proofs.«01_k».proof.Proof.DhxRefRun
public import proofs.«01_k».proof.Proof.Gen.Dhx

@[expose] public section

set_option maxRecDepth 16384

noncomputable section

namespace Cert.DhxIdeal.Out

open Cert.DhxIdeal Cert.DhxIdeal.Gen Cert.DhxIdeal.Copy Idealize.ShloMosaic Idealize.ShloMosaic.TcCoe Idealize.SL.Sem

set_option maxHeartbeats 2000000 in
open Cert.DhxRefIdeal.Read in
/-- The reference's results, of arrays that equal the call's arguments, are the call's results. -/
theorem same_of (m : (ℓ : Loc nD τ sig) → Buf (Elt Ideal) ℓ) (c : Dev nD)
    (x0 : FVec Ideal S8192x1536 .bf16) (e0 : x0 = m ((c.tc : Thread nD τ).loc main_arg0))
    (x1 : FVec Ideal S8192x1024 .bf16) (e1 : x1 = m ((c.tc : Thread nD τ).loc main_arg1))
    (x2 : FVec Ideal S8192x2048 .bf16) (e2 : x2 = m ((c.tc : Thread nD τ).loc main_arg2))
    (x3 : FVec Ideal S8192x1024 .bf16) (e3 : x3 = m ((c.tc : Thread nD τ).loc main_arg3))
    (x4 : FVec Ideal S2048x5632 .f32) (e4 : x4 = m ((c.tc : Thread nD τ).loc main_arg4))
    (x5 : FVec Ideal S8192x2048 .f32) (e5 : x5 = m ((c.tc : Thread nD τ).loc main_arg5))
    (x6 : FVec Ideal S8192x2048 .f32) (e6 : x6 = m ((c.tc : Thread nD τ).loc main_arg6))
    (x7 : FVec Ideal S1x6144 .f32) (e7 : x7 = m ((c.tc : Thread nD τ).loc main_arg7)) :
    val_main_v27 (F := Ideal) x0 x1 x2 x3 x4 x5 x7 = (Copy.dats m 0 c).arrAt 7 (cfgs 0).N ∧
    val_main_v21 (F := Ideal) x0 x1 x2 x3 x4 = (Copy.dats m 0 c).arrAt 8 (cfgs 0).N ∧
    val_main_v24 (F := Ideal) x0 x1 x2 x3 x4 x6 = (Copy.dats m 0 c).arrAt 9 (cfgs 0).N := by
  subst e0 e1 e2 e3 e4 e5 e6 e7
  refine ⟨?_, ?_, ?_⟩
  · rw [final7]
    funext y
    idx_vars y
    exact DhxRow.v27 _ _ _ _ _ _ _ y0 y1
  · rw [final8]
    funext y
    idx_vars y
    obtain rfl : y0 = 0 := Subsingleton.elim _ _
    exact DhxRow.v21 _ _ _ _ _ y1
  · rw [final9]
    funext y
    idx_vars y
    obtain rfl : y0 = 0 := Subsingleton.elim _ _
    exact DhxRow.v24 _ _ _ _ _ _ y1

/-- The call ends with its results' arrays. -/
theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (Copy.dats m 0 c).arrAt 7 (cfgs 0).N
      ∧ r.2.mem ((c.tc : Thread nD τ).loc main_v2_1) = (Copy.dats m 0 c).arrAt 8 (cfgs 0).N
      ∧ r.2.mem ((c.tc : Thread nD τ).loc main_v2_2) = (Copy.dats m 0 c).arrAt 9 (cfgs 0).N) :=
  θ_run_mono (Copy.run_main m g) fun r hr c => ⟨(hr c).1 7, (hr c).1 8, (hr c).1 9⟩

/-- The call ends with its results' arrays and leaves its arguments. -/
theorem whole (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (Copy.dats m 0 c).arrAt 7 (cfgs 0).N
      ∧ r.2.mem ((c.tc : Thread nD τ).loc main_v2_1) = (Copy.dats m 0 c).arrAt 8 (cfgs 0).N
      ∧ r.2.mem ((c.tc : Thread nD τ).loc main_v2_2) = (Copy.dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (θ_run_and (ends m g) (Copy.unchanged m g)) fun r hr c => ?_
  obtain ⟨h0, h1, h2⟩ := hr.1 c
  exact ⟨h0, h1, h2, hr.2 c⟩

/-- The call and the reference end with equal results, whatever arguments they start from. -/
theorem algebraic : Cert.algebraic_DhxIdeal_DhxRefIdeal := by
  intro m g m' g' hpre hagree
  refine ⟨_, _, _, whole m g, θ_run_mono (Cert.DhxRefIdeal.Row.ends m' g') fun r hr c => ?_⟩
  obtain ⟨h0, h1, h2, h⟩ := hr c
  obtain ⟨a0, a1, a2, a3, a4, a5, a6, a7⟩ := hagree c
  obtain ⟨s0, s1, s2⟩ := same_of m c _ a0 _ a1 _ a2 _ a3 _ a4 _ a5 _ a6 _ a7
  exact ⟨h0.trans s0, h1.trans s1, h2.trans s2, h⟩

/-- The call ends and leaves its arguments, over the reals. -/
theorem frame_ideal : Cert.quiescent_DhxIdeal := fun m ρ _ => Copy.frame m ρ

/-- Over floats the call's program is the same text: the same body at each grid point, -/
theorem same_body : Cert.Dhx.defs₀ (F := Bits) = Cert.DhxIdeal.defs₀ (F := Bits) := by
  unfold Cert.Dhx.defs₀ Cert.DhxIdeal.defs₀
  refine congrArg Defs.onTc ?_
  funext i x
  match i, x with
  | 0, (t, s) => rfl

/-- the same pipeline around it, -/
theorem same_defs : Cert.Dhx.defs (F := Bits) = Cert.DhxIdeal.defs (F := Bits) :=
  congrArg (Pipeline.defs (Cert.DhxIdeal.pcfgs (F := Bits))) same_body

/-- the same host operations before it; -/
theorem same_main : Cert.Dhx.main (F := Bits) = Cert.DhxIdeal.main (F := Bits) := rfl

/-- so it ends and leaves its arguments there too. -/
theorem frame : Cert.quiescent_Dhx := by
  intro m ρ _
  have h := Copy.frame (F := Bits) m ρ
  rw [← same_defs, ← same_main] at h
  exact h

end Cert.DhxIdeal.Out

end
-- ==== Proof.lean ====
/- The claims put together: the frames are the generated ones but for the input projection's backward call, whose
   frames and equation, like the other equations, are proved in the modules of each call. -/
module

public import proofs.«01_k».proof.Defs
public import proofs.«01_k».proof.Proof.GateAlg
public import proofs.«01_k».proof.Proof.Wout
public import proofs.«01_k».proof.Proof.Win
public import proofs.«01_k».proof.Proof.HeadAlg
public import proofs.«01_k».proof.Proof.InpAlg
public import proofs.«01_k».proof.Proof.DhxAlg
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutRefIdeal
public import proofs.«01_k».proof.Proof.Gen.WoutRefIdeal.Run
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinRefIdeal
public import proofs.«01_k».proof.Proof.Gen.WinRefIdeal.Run
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Run
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.Gen.InpRefIdeal.Run
public import proofs.«01_k».proof.Proof.Gen.Dhx
public import proofs.«01_k».proof.Proof.Gen.DhxIdeal
public import proofs.«01_k».proof.Proof.Gen.DhxRefIdeal
public import proofs.«01_k».proof.Proof.Gen.DhxRefIdeal.Run

@[expose] public section

noncomputable section

namespace Cert.Proof

open Idealize.ShloMosaic Idealize.SL.Sem

/-- The shapes that the precondition's operations relate. -/
theorem finite_gate_facts : Cert.Pre_finite_gate.Facts where
  bitsLt_bf16_f32 := by decide
  bcast_S_S8192x1024 := by decide
  reducesTo_S8192x1024_S_d0_1 := by decide
  h_S_ := by decide
  bcast_S_S1x1024 := by decide
  reducesTo_S1x1024_S_d0_1 := by decide
  bcast_S_S1024x1024 := by decide
  reducesTo_S1024x1024_S_d0_1 := by decide
  bcast_S_S8192x2048 := by decide
  reducesTo_S8192x2048_S_d0_1 := by decide

/-- The same of the head's precondition. -/
theorem finite_head_facts : Cert.Pre_finite_head.Facts where
  bitsLt_bf16_f32 := by decide
  bcast_S_S8192x2048 := by decide
  reducesTo_S8192x2048_S_d0_1 := by decide
  h_S_ := by decide
  bcast_S_S2048x2048 := by decide
  reducesTo_S2048x2048_S_d0_1 := by decide
  bcast_S_S1x6144 := by decide
  reducesTo_S1x6144_S_d0_1 := by decide
  bcast_S_S1x2048 := by decide
  reducesTo_S1x2048_S_d0_1 := by decide

/-- The reference of the gate's backward call ends and leaves its arguments. -/
theorem gate_ref_frame : Cert.quiescent_GateRefIdeal := fun m ρ _ =>
  (θ_run Cert.GateRefIdeal.defs _ _).mono
    (fun r h => ⟨fun c => (h c).2.2.2.2.2.2.2, sem_eq_zero_of_no_sems (by decide) r.2⟩)
    (Cert.GateRefIdeal.Value.run (F := Ideal) m ρ)

/-- The reference of the output projection's gradient ends and leaves its arguments. -/
theorem wout_ref_frame : Cert.quiescent_WoutRefIdeal := fun m ρ _ =>
  (θ_run Cert.WoutRefIdeal.defs _ _).mono (fun r h => ⟨fun c => (h c).2, sem_eq_zero_of_no_sems (by decide) r.2⟩)
    (Cert.WoutRefIdeal.Value.run (F := Ideal) m ρ)

/-- The reference of the input projection's gradient ends and leaves its arguments. -/
theorem win_ref_frame : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

/-- The reference of the head's call ends and leaves its arguments. -/
theorem head_ref_frame : Cert.quiescent_HeadRefIdeal := fun m ρ _ =>
  (θ_run Cert.HeadRefIdeal.defs _ _).mono
    (fun r h => ⟨fun c => (h c).2.2.2.2.2.2.2, sem_eq_zero_of_no_sems (by decide) r.2⟩)
    (Cert.HeadRefIdeal.Value.run (F := Ideal) m ρ)

/-- The reference of the input projection ends and leaves its arguments. -/
theorem inp_ref_frame : Cert.quiescent_InpRefIdeal := fun m ρ _ =>
  (θ_run Cert.InpRefIdeal.defs _ _).mono
    (fun r h => ⟨fun c => (h c).2.2.2.2.2, sem_eq_zero_of_no_sems (by decide) r.2⟩)
    (Cert.InpRefIdeal.Value.run (F := Ideal) m ρ)

/-- The reference of the input projection's backward call ends and leaves its arguments. -/
theorem dhx_ref_frame : Cert.quiescent_DhxRefIdeal := fun m ρ _ =>
  (θ_run Cert.DhxRefIdeal.defs _ _).mono
    (fun r h => ⟨fun c => (h c).2.2.2, sem_eq_zero_of_no_sems (by decide) r.2⟩)
    (Cert.DhxRefIdeal.Value.run (F := Ideal) m ρ)

theorem claim : Cert.Claim :=
  ⟨Cert.Gate.Gen.facts, Cert.GateIdeal.Gen.facts, Cert.GateRefIdeal.Gen.facts, Cert.Wout.Gen.facts, Cert.WoutIdeal.Gen.facts,
    Cert.WoutRefIdeal.Gen.facts, Cert.Win.Gen.facts, Cert.WinIdeal.Gen.facts, Cert.WinRefIdeal.Gen.facts, Cert.Head.Gen.facts,
    Cert.HeadIdeal.Gen.facts, Cert.HeadRefIdeal.Gen.facts, Cert.Inp.Gen.facts, Cert.InpIdeal.Gen.facts,
    Cert.InpRefIdeal.Gen.facts, Cert.Dhx.Gen.facts, Cert.DhxIdeal.Gen.facts, Cert.DhxRefIdeal.Gen.facts,
    finite_gate_facts, finite_head_facts,
    fun m ρ _ => Cert.Gate.Gen.frame m ρ, fun m ρ _ => Cert.GateIdeal.Gen.frame m ρ, fun m ρ _ => Cert.GateIdeal.Gen.frame m ρ,
    gate_ref_frame, fun m ρ _ => gate_ref_frame m ρ trivial,
    fun m ρ _ => Cert.Wout.Gen.frame m ρ, fun m ρ _ => Cert.WoutIdeal.Gen.frame m ρ, wout_ref_frame,
    fun m ρ _ => Cert.Win.Gen.frame m ρ, fun m ρ _ => Cert.WinIdeal.Gen.frame m ρ, win_ref_frame,
    fun m ρ _ => Cert.Head.Gen.frame m ρ, fun m ρ _ => Cert.HeadIdeal.Gen.frame m ρ, fun m ρ _ => Cert.HeadIdeal.Gen.frame m ρ,
    head_ref_frame, fun m ρ _ => head_ref_frame m ρ trivial,
    fun m ρ _ => Cert.Inp.Gen.frame m ρ, fun m ρ _ => Cert.InpIdeal.Gen.frame m ρ, inp_ref_frame,
    Cert.DhxIdeal.Out.frame, Cert.DhxIdeal.Out.frame_ideal, dhx_ref_frame,
    (trivial : Cert.preserves_Gate_GateIdeal), Cert.GateIdeal.Out.algebraic (hPre := finite_gate_facts),
    (trivial : Cert.preserves_Wout_WoutIdeal), Cert.WoutIdeal.Grad.algebraic,
    (trivial : Cert.preserves_Win_WinIdeal), Cert.WinIdeal.Grad.algebraic,
    (trivial : Cert.preserves_Head_HeadIdeal), Cert.HeadIdeal.Out.algebraic (hPre := finite_head_facts),
    (trivial : Cert.preserves_Inp_InpIdeal), Cert.InpIdeal.Out.algebraic,
    (trivial : Cert.preserves_Dhx_DhxIdeal), Cert.DhxIdeal.Out.algebraic⟩

end Cert.Proof

end
